-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_nonneg [hPre_lengths_nonneg : Cert.Pre_lengths_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_nonneg [hPre_lengths_nonneg : Cert.Pre_lengths_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_lengths_nonneg [hKernelIdeal : Cert.KernelIdeal.Facts] [hPre_lengths_nonneg : Cert.Pre_lengths_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_lengths_nonneg [hReferenceIdeal : Cert.ReferenceIdeal.Facts] [hPre_lengths_nonneg : Cert.Pre_lengths_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_lengths_nonneg [hKernelIdeal : Cert.KernelIdeal.Facts] [hReferenceIdeal : Cert.ReferenceIdeal.Facts] [hPre_lengths_nonneg : Cert.Pre_lengths_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_lengths_nonneg : Cert.Pre_lengths_nonneg.Facts),
    quiescent_Kernel (hKernel := hKernel)
    ∧ quiescent_KernelIdeal (hKernelIdeal := hKernelIdeal)
    ∧ quiescent_KernelIdeal_pre_lengths_nonneg (hKernelIdeal := hKernelIdeal) (hPre_lengths_nonneg := hPre_lengths_nonneg)
    ∧ quiescent_ReferenceIdeal (hReferenceIdeal := hReferenceIdeal)
    ∧ quiescent_ReferenceIdeal_pre_lengths_nonneg (hReferenceIdeal := hReferenceIdeal) (hPre_lengths_nonneg := hPre_lengths_nonneg)
    ∧ preserves_Kernel_KernelIdeal
    ∧ algebraic_KernelIdeal_ReferenceIdeal_pre_lengths_nonneg (hKernelIdeal := hKernelIdeal) (hReferenceIdeal := hReferenceIdeal) (hPre_lengths_nonneg := hPre_lengths_nonneg)
-- ==== Pre_lengths_nonneg.lean ====
abbrev S16x512x300 : Shape := ⟨3, ![16, 512, 300]⟩
abbrev S768x300 : Shape := ⟨2, ![768, 300]⟩
abbrev S768x256 : Shape := ⟨2, ![768, 256]⟩
abbrev S768 : Shape := ⟨1, ![768]⟩
abbrev S512 : Shape := ⟨1, ![512]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x512x300 .f32) (main_arg1 : FVec F S768x300 .f32) (main_arg2 : FVec F S768x256 .f32) (main_arg3 : FVec F S768 .f32) (main_arg4 : FVec F S768 .f32) (main_arg5 : FVec F S768x300 .f32) (main_arg6 : FVec F S768x256 .f32) (main_arg7 : FVec F S768 .f32) (main_arg8 : FVec F S768 .f32) (main_arg9 : FVec F S512 .f32) (main_arg10 : FVec F S512 .f32) (main_arg11 : IVec S16 32) : IVec S16 1 :=
  let main_c : IVec S_ 32 := constantI S_ 32 0#32
  let main_v0 : IVec S16 32 := broadcastInDim S16 ![] bcast_S_S16 main_c
  let main_v1 : IVec S16 1 := cmpi .sge main_arg11 main_v0
  main_v1
-- ==== Kernel.lean ====
abbrev S16x512x300 : Shape := ⟨3, ![16, 512, 300]⟩
abbrev S768x300 : Shape := ⟨2, ![768, 300]⟩
abbrev S768x256 : Shape := ⟨2, ![768, 256]⟩
abbrev S768 : Shape := ⟨1, ![768]⟩
abbrev S512 : Shape := ⟨1, ![512]⟩
abbrev S16 : Shape := ⟨1, ![16]⟩
abbrev S_ : Shape := ⟨0, ![]⟩
abbrev S16x1 : Shape := ⟨2, ![16, 1]⟩
abbrev S16x256 : Shape := ⟨2, ![16, 256]⟩
abbrev S512x16x300 : Shape := ⟨3, ![512, 16, 300]⟩
abbrev S8192x300 : Shape := ⟨2, ![8192, 300]⟩
abbrev S300x768 : Shape := ⟨2, ![300, 768]⟩
abbrev S256x768 : Shape := ⟨2, ![256, 768]⟩
abbrev S256 : Shape := ⟨1, ![256]⟩
abbrev S1x768 : Shape := ⟨2, ![1, 768]⟩
abbrev S1x256 : Shape := ⟨2, ![1, 256]⟩
abbrev S1x512 : Shape := ⟨2, ![1, 512]⟩
abbrev S16x512 : Shape := ⟨2, ![16, 512]⟩
abbrev S2048x300 : Shape := ⟨2, ![2048, 300]⟩
abbrev S2048x768 : Shape := ⟨2, ![2048, 768]⟩
abbrev S16x768 : Shape := ⟨2, ![16, 768]⟩

abbrev nBuf : Space → Nat
  | .hbm => 47
  | .vmem => 20
  | .smem => 0
  | _ => 0

abbrev bufTy : (tb : Table) → Fin (tcTables nBuf tb) → BufTy
  | .hbm, ⟨0, _⟩ => ⟨S16x512x300, .f32⟩
  | .hbm, ⟨1, _⟩ => ⟨S768x300, .f32⟩
  | .hbm, ⟨2, _⟩ => ⟨S768x256, .f32⟩
  | .hbm, ⟨3, _⟩ => ⟨S768, .f32⟩
  | .hbm, ⟨4, _⟩ => ⟨S768, .f32⟩
  | .hbm, ⟨5, _⟩ => ⟨S768x300, .f32⟩
  | .hbm, ⟨6, _⟩ => ⟨S768x256, .f32⟩
  | .hbm, ⟨7, _⟩ => ⟨S768, .f32⟩
  | .hbm, ⟨8, _⟩ => ⟨S768, .f32⟩
  | .hbm, ⟨9, _⟩ => ⟨S512, .f32⟩
  | .hbm, ⟨10, _⟩ => ⟨S512, .f32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S16x1, .i32⟩
  | .hbm, ⟨16, _⟩ => ⟨S16x256, .i32⟩
  | .hbm, ⟨17, _⟩ => ⟨S512x16x300, .f32⟩
  | .hbm, ⟨18, _⟩ => ⟨S8192x300, .f32⟩
  | .hbm, ⟨19, _⟩ => ⟨S8192x300, .bf16⟩
  | .hbm, ⟨20, _⟩ => ⟨S300x768, .f32⟩
  | .hbm, ⟨21, _⟩ => ⟨S300x768, .bf16⟩
  | .hbm, ⟨22, _⟩ => ⟨S256x768, .f32⟩
  | .hbm, ⟨23, _⟩ => ⟨S256x768, .bf16⟩
  | .hbm, ⟨24, _⟩ => ⟨S512, .f32⟩
  | .hbm, ⟨25, _⟩ => ⟨S_, .f32⟩
  | .hbm, ⟨26, _⟩ => ⟨S256, .f32⟩
  | .hbm, ⟨27, _⟩ => ⟨S768, .f32⟩
  | .hbm, ⟨28, _⟩ => ⟨S768, .f32⟩
  | .hbm, ⟨29, _⟩ => ⟨S1x768, .f32⟩
  | .hbm, ⟨30, _⟩ => ⟨S256, .f32⟩
  | .hbm, ⟨31, _⟩ => ⟨S1x256, .f32⟩
  | .hbm, ⟨32, _⟩ => ⟨S300x768, .f32⟩
  | .hbm, ⟨33, _⟩ => ⟨S300x768, .bf16⟩
  | .hbm, ⟨34, _⟩ => ⟨S256x768, .f32⟩
  | .hbm, ⟨35, _⟩ => ⟨S256x768, .bf16⟩
  | .hbm, ⟨36, _⟩ => ⟨S512, .f32⟩
  | .hbm, ⟨37, _⟩ => ⟨S_, .f32⟩
  | .hbm, ⟨38, _⟩ => ⟨S256, .f32⟩
  | .hbm, ⟨39, _⟩ => ⟨S768, .f32⟩
  | .hbm, ⟨40, _⟩ => ⟨S768, .f32⟩
  | .hbm, ⟨41, _⟩ => ⟨S1x768, .f32⟩
  | .hbm, ⟨42, _⟩ => ⟨S256, .f32⟩
  | .hbm, ⟨43, _⟩ => ⟨S1x256, .f32⟩
  | .hbm, ⟨44, _⟩ => ⟨S1x512, .f32⟩
  | .hbm, ⟨45, _⟩ => ⟨S1x512, .f32⟩
  | .hbm, ⟨46, _⟩ => ⟨S16x512, .f32⟩
  | .local _ .vmem, ⟨0, _⟩ => ⟨S16x256, .i32⟩
  | .local _ .vmem, ⟨1, _⟩ => ⟨S2048x300, .bf16⟩
  | .local _ .vmem, ⟨2, _⟩ => ⟨S2048x300, .bf16⟩
  | .local _ .vmem, ⟨3, _⟩ => ⟨S2048x300, .bf16⟩
  | .local _ .vmem, ⟨4, _⟩ => ⟨S2048x300, .bf16⟩
  | .local _ .vmem, ⟨5, _⟩ => ⟨S300x768, .bf16⟩
  | .local _ .vmem, ⟨6, _⟩ => ⟨S256x768, .bf16⟩
  | .local _ .vmem, ⟨7, _⟩ => ⟨S1x768, .f32⟩
  | .local _ .vmem, ⟨8, _⟩ => ⟨S1x256, .f32⟩
  | .local _ .vmem, ⟨9, _⟩ => ⟨S300x768, .bf16⟩
  | .local _ .vmem, ⟨10, _⟩ => ⟨S256x768, .bf16⟩
  | .local _ .vmem, ⟨11, _⟩ => ⟨S1x768, .f32⟩
  | .local _ .vmem, ⟨12, _⟩ => ⟨S1x256, .f32⟩
  | .local _ .vmem, ⟨13, _⟩ => ⟨S1x512, .f32⟩
  | .local _ .vmem, ⟨14, _⟩ => ⟨S1x512, .f32⟩
  | .local _ .vmem, ⟨15, _⟩ => ⟨S16x512, .f32⟩
  | .local _ .vmem, ⟨16, _⟩ => ⟨S16x256, .f32⟩
  | .local _ .vmem, ⟨17, _⟩ => ⟨S16x256, .f32⟩
  | .local _ .vmem, ⟨18, _⟩ => ⟨S2048x768, .bf16⟩
  | .local _ .vmem, ⟨19, _⟩ => ⟨S2048x768, .bf16⟩
  | _, _ => ⟨S16x512x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_31 : BitVec 32 := 0#32
  let c128_i32 : BitVec 32 := 128#32
  let v41 : BitVec 32 := Scalar.addi c0_i32_31 c128_i32
  let c1_i32 : BitVec 32 := 1#32
  ⟨c0_i32_31, v41, c1_i32⟩
def k0_off1 (k0_t1 : Fin k0_t1_loop.trips) : Fin 2 → Nat :=
  let c0_i32_31 : BitVec 32 := 0#32
  let c1_i32 : BitVec 32 := 1#32
  let arg19 : BitVec 32 := Scf.iv c0_i32_31 c1_i32 k0_t1
  let c16_i32 : BitVec 32 := 16#32
  let v54 : BitVec 32 := Scalar.muli arg19 c16_i32
  let v55 : Index := Scalar.indexCast v54
  let c0_39 : Index := 0#32
  ![v55.toNat, 0]
def k0_off2 (k0_t1 : Fin k0_t1_loop.trips) : Fin 2 → Nat :=
  let c127_i32 : BitVec 32 := 127#32
  let c0_i32_31 : BitVec 32 := 0#32
  let c1_i32 : BitVec 32 := 1#32
  let arg19 : BitVec 32 := Scf.iv c0_i32_31 c1_i32 k0_t1
  let v84 : BitVec 32 := Scalar.subi c127_i32 arg19
  let c16_i32_42 : BitVec 32 := 16#32
  let v85 : BitVec 32 := Scalar.muli v84 c16_i32_42
  let v86 : Index := Scalar.indexCast v85
  let c0_43 : Index := 0#32
  ![v86.toNat, 0]
def k0_cond2 (i : grid0.Coords) : BitVec 1 :=
  let arg0 : BitVec 32 := BitVec.ofNat 32 (i 0).val
  let c3_i32 : BitVec 32 := 3#32
  let v49 : BitVec 1 := Scalar.cmpi .eq arg0 c3_i32
  let v50 : BitVec 32 := Scalar.extui v49
  let c0_i32_37 : BitVec 32 := 0#32
  let v51 : BitVec 1 := Scalar.cmpi .ne v50 c0_i32_37
  v51

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x300 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x300 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S300x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S300x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S16x512x300 : Shape := ⟨3, ![16, 512, 300]⟩
abbrev S768x300 : Shape := ⟨2, ![768, 300]⟩
abbrev S768x256 : Shape := ⟨2, ![768, 256]⟩
abbrev S768 : Shape := ⟨1, ![768]⟩
abbrev S512 : Shape := ⟨1, ![512]⟩
abbrev S16 : Shape := ⟨1, ![16]⟩
abbrev S_ : Shape := ⟨0, ![]⟩
abbrev S16x1 : Shape := ⟨2, ![16, 1]⟩
abbrev S512x16x300 : Shape := ⟨3, ![512, 16, 300]⟩
abbrev S16x256 : Shape := ⟨2, ![16, 256]⟩
abbrev S1x16x300 : Shape := ⟨3, ![1, 16, 300]⟩
abbrev S16x300 : Shape := ⟨2, ![16, 300]⟩
abbrev S1 : Shape := ⟨1, ![1]⟩
abbrev S300x768 : Shape := ⟨2, ![300, 768]⟩
abbrev S16x768 : Shape := ⟨2, ![16, 768]⟩
abbrev S1x768 : Shape := ⟨2, ![1, 768]⟩
abbrev S256x768 : Shape := ⟨2, ![256, 768]⟩
abbrev S16x512 : Shape := ⟨2, ![16, 512]⟩
abbrev S1x512 : Shape := ⟨2, ![1, 512]⟩

abbrev nBuf : Space → Nat
  | .hbm => 218
  | .vmem => 0
  | .smem => 0
  | _ => 0

abbrev hbmTy0_0 (i : Nat) : BufTy := match i % 128 with
  | 0 => ⟨S16x512x300, .f32⟩
  | 1 => ⟨S768x300, .f32⟩
  | 2 => ⟨S768x256, .f32⟩
  | 3 => ⟨S768, .f32⟩
  | 4 => ⟨S768, .f32⟩
  | 5 => ⟨S768x300, .f32⟩
  | 6 => ⟨S768x256, .f32⟩
  | 7 => ⟨S768, .f32⟩
  | 8 => ⟨S768, .f32⟩
  | 9 => ⟨S512, .f32⟩
  | 10 => ⟨S512, .f32⟩
  | 11 => ⟨S16, .i32⟩
  | 12 => ⟨S16, .i32⟩
  | 13 => ⟨S16, .i32⟩
  | 14 => ⟨S16, .i32⟩
  | 15 => ⟨S16, .i32⟩
  | 16 => ⟨S16, .i32⟩
  | 17 => ⟨S16, .i32⟩
  | 18 => ⟨S16, .i32⟩
  | 19 => ⟨S_, .i32⟩
  | 20 => ⟨S16, .i32⟩
  | 21 => ⟨S16, .i1⟩
  | 22 => ⟨S_, .i32⟩
  | 23 => ⟨S16, .i32⟩
  | 24 => ⟨S16, .i32⟩
  | 25 => ⟨S16, .i32⟩
  | 26 => ⟨S16x1, .i32⟩
  | 27 => ⟨S16x512x300, .f32⟩
  | 28 => ⟨S_, .i32⟩
  | 29 => ⟨S16, .i32⟩
  | 30 => ⟨S16, .i1⟩
  | 31 => ⟨S_, .i32⟩
  | 32 => ⟨S16, .i32⟩
  | 33 => ⟨S16, .i32⟩
  | 34 => ⟨S16, .i32⟩
  | 35 => ⟨S16x1, .i32⟩
  | 36 => ⟨S16, .i32⟩
  | 37 => ⟨S_, .i32⟩
  | 38 => ⟨S16, .i32⟩
  | 39 => ⟨S16, .i1⟩
  | 40 => ⟨S_, .i32⟩
  | 41 => ⟨S_, .i32⟩
  | 42 => ⟨S16, .i32⟩
  | 43 => ⟨S16, .i32⟩
  | 44 => ⟨S512x16x300, .f32⟩
  | 45 => ⟨S512, .i32⟩
  | 46 => ⟨S_, .f32⟩
  | 47 => ⟨S16x256, .f32⟩
  | 48 => ⟨S512x16x300, .f32⟩
  | 49 => ⟨S512, .i32⟩
  | 50 => ⟨S_, .i32⟩
  | 51 => ⟨S512x16x300, .f32⟩
  | 52 => ⟨S512, .i32⟩
  | 53 => ⟨S512x16x300, .f32⟩
  | 54 => ⟨S512, .i32⟩
  | 55 => ⟨S16, .i32⟩
  | 56 => ⟨S768x300, .f32⟩
  | 57 => ⟨S768, .f32⟩
  | 58 => ⟨S768x256, .f32⟩
  | 59 => ⟨S768, .f32⟩
  | 60 => ⟨S768x300, .f32⟩
  | 61 => ⟨S768, .f32⟩
  | 62 => ⟨S768x256, .f32⟩
  | 63 => ⟨S768, .f32⟩
  | 64 => ⟨S_, .i32⟩
  | 65 => ⟨S16x256, .f32⟩
  | 66 => ⟨S16x256, .f32⟩
  | 67 => ⟨S_, .i32⟩
  | 68 => ⟨S_, .i1⟩
  | 69 => ⟨S_, .i32⟩
  | 70 => ⟨S_, .i32⟩
  | 71 => ⟨S1x16x300, .f32⟩
  | 72 => ⟨S16x300, .f32⟩
  | 73 => ⟨S1, .i32⟩
  | 74 => ⟨S_, .i32⟩
  | 75 => ⟨S_, .i32⟩
  | 76 => ⟨S_, .i32⟩
  | 77 => ⟨S1x16x300, .f32⟩
  | 78 => ⟨S16x300, .f32⟩
  | 79 => ⟨S1, .i32⟩
  | 80 => ⟨S_, .i32⟩
  | 81 => ⟨S16, .i32⟩
  | 82 => ⟨S16, .i1⟩
  | 83 => ⟨S16x1, .i1⟩
  | 84 => ⟨S300x768, .f32⟩
  | 85 => ⟨S16x768, .f32⟩
  | 86 => ⟨S1x768, .f32⟩
  | 87 => ⟨S16x768, .f32⟩
  | 88 => ⟨S16x768, .f32⟩
  | 89 => ⟨S256x768, .f32⟩
  | 90 => ⟨S16x768, .f32⟩
  | 91 => ⟨S1x768, .f32⟩
  | 92 => ⟨S16x768, .f32⟩
  | 93 => ⟨S16x768, .f32⟩
  | 94 => ⟨S16x256, .f32⟩
  | 95 => ⟨S16x256, .f32⟩
  | 96 => ⟨S16x256, .f32⟩
  | 97 => ⟨S16x256, .f32⟩
  | 98 => ⟨S16x256, .f32⟩
  | 99 => ⟨S16x256, .f32⟩
  | 100 => ⟨S16x256, .f32⟩
  | 101 => ⟨S16x256, .f32⟩
  | 102 => ⟨S16x256, .f32⟩
  | 103 => ⟨S_, .f32⟩
  | 104 => ⟨S16x256, .f32⟩
  | 105 => ⟨S16x256, .f32⟩
  | 106 => ⟨S_, .f32⟩
  | 107 => ⟨S16x256, .f32⟩
  | 108 => ⟨S16x256, .f32⟩
  | 109 => ⟨S16x256, .f32⟩
  | 110 => ⟨S16x256, .f32⟩
  | 111 => ⟨S16x256, .f32⟩
  | 112 => ⟨S_, .f32⟩
  | 113 => ⟨S16x256, .f32⟩
  | 114 => ⟨S16x256, .f32⟩
  | 115 => ⟨S_, .f32⟩
  | 116 => ⟨S16x256, .f32⟩
  | 117 => ⟨S16x256, .f32⟩
  | 118 => ⟨S16x256, .f32⟩
  | 119 => ⟨S16x256, .f32⟩
  | 120 => ⟨S16x256, .f32⟩
  | 121 => ⟨S_, .f32⟩
  | 122 => ⟨S16x256, .f32⟩
  | 123 => ⟨S16x256, .f32⟩
  | 124 => ⟨S16x256, .f32⟩
  | 125 => ⟨S16x256, .f32⟩
  | 126 => ⟨S16x256, .f32⟩
  | 127 => ⟨S16x256, .i1⟩
  | _ => ⟨S16x512x300, .f32⟩

abbrev hbmTy0_1 (i : Nat) : BufTy := match i % 128 with
  | 0 => ⟨S16x256, .f32⟩
  | 1 => ⟨S16, .i32⟩
  | 2 => ⟨S16, .i1⟩
  | 3 => ⟨S16x1, .i1⟩
  | 4 => ⟨S300x768, .f32⟩
  | 5 => ⟨S16x768, .f32⟩
  | 6 => ⟨S1x768, .f32⟩
  | 7 => ⟨S16x768, .f32⟩
  | 8 => ⟨S16x768, .f32⟩
  | 9 => ⟨S256x768, .f32⟩
  | 10 => ⟨S16x768, .f32⟩
  | 11 => ⟨S1x768, .f32⟩
  | 12 => ⟨S16x768, .f32⟩
  | 13 => ⟨S16x768, .f32⟩
  | 14 => ⟨S16x256, .f32⟩
  | 15 => ⟨S16x256, .f32⟩
  | 16 => ⟨S16x256, .f32⟩
  | 17 => ⟨S16x256, .f32⟩
  | 18 => ⟨S16x256, .f32⟩
  | 19 => ⟨S16x256, .f32⟩
  | 20 => ⟨S16x256, .f32⟩
  | 21 => ⟨S16x256, .f32⟩
  | 22 => ⟨S16x256, .f32⟩
  | 23 => ⟨S_, .f32⟩
  | 24 => ⟨S16x256, .f32⟩
  | 25 => ⟨S16x256, .f32⟩
  | 26 => ⟨S_, .f32⟩
  | 27 => ⟨S16x256, .f32⟩
  | 28 => ⟨S16x256, .f32⟩
  | 29 => ⟨S16x256, .f32⟩
  | 30 => ⟨S16x256, .f32⟩
  | 31 => ⟨S16x256, .f32⟩
  | 32 => ⟨S_, .f32⟩
  | 33 => ⟨S16x256, .f32⟩
  | 34 => ⟨S16x256, .f32⟩
  | 35 => ⟨S_, .f32⟩
  | 36 => ⟨S16x256, .f32⟩
  | 37 => ⟨S16x256, .f32⟩
  | 38 => ⟨S16x256, .f32⟩
  | 39 => ⟨S16x256, .f32⟩
  | 40 => ⟨S16x256, .f32⟩
  | 41 => ⟨S_, .f32⟩
  | 42 => ⟨S16x256, .f32⟩
  | 43 => ⟨S16x256, .f32⟩
  | 44 => ⟨S16x256, .f32⟩
  | 45 => ⟨S16x256, .f32⟩
  | 46 => ⟨S16x256, .f32⟩
  | 47 => ⟨S16x256, .i1⟩
  | 48 => ⟨S16x256, .f32⟩
  | 49 => ⟨S_, .i32⟩
  | 50 => ⟨S_, .i32⟩
  | 51 => ⟨S16x512, .f32⟩
  | 52 => ⟨S_, .i32⟩
  | 53 => ⟨S16, .i32⟩
  | 54 => ⟨S16, .i1⟩
  | 55 => ⟨S_, .i32⟩
  | 56 => ⟨S16, .i32⟩
  | 57 => ⟨S16, .i32⟩
  | 58 => ⟨S16, .i32⟩
  | 59 => ⟨S16x1, .i32⟩
  | 60 => ⟨S16x512, .f32⟩
  | 61 => ⟨S_, .f32⟩
  | 62 => ⟨S16, .f32⟩
  | 63 => ⟨S16x1, .f32⟩
  | 64 => ⟨S_, .f32⟩
  | 65 => ⟨S16x1, .f32⟩
  | 66 => ⟨S16x1, .f32⟩
  | 67 => ⟨S16x512, .f32⟩
  | 68 => ⟨S16x512, .f32⟩
  | 69 => ⟨S16x512, .f32⟩
  | 70 => ⟨S_, .f32⟩
  | 71 => ⟨S16, .f32⟩
  | 72 => ⟨S16x1, .f32⟩
  | 73 => ⟨S_, .f32⟩
  | 74 => ⟨S16x1, .f32⟩
  | 75 => ⟨S16x1, .f32⟩
  | 76 => ⟨S16x512, .f32⟩
  | 77 => ⟨S16x512, .f32⟩
  | 78 => ⟨S_, .f32⟩
  | 79 => ⟨S16x1, .f32⟩
  | 80 => ⟨S16x1, .f32⟩
  | 81 => ⟨S16x1, .f32⟩
  | 82 => ⟨S16x512, .f32⟩
  | 83 => ⟨S16x512, .f32⟩
  | 84 => ⟨S1x512, .f32⟩
  | 85 => ⟨S16x512, .f32⟩
  | 86 => ⟨S16x512, .f32⟩
  | 87 => ⟨S1x512, .f32⟩
  | 88 => ⟨S16x512, .f32⟩
  | 89 => ⟨S16x512, .f32⟩
  | _ => ⟨S16x512x300, .f32⟩

abbrev hbmTy (i : Nat) : BufTy := match i / 128 with
  | 0 => hbmTy0_0 i
  | 1 => hbmTy0_1 i
  | _ => ⟨S16x512x300, .f32⟩

abbrev bufTy : (tb : Table) → Fin (tcTables nBuf tb) → BufTy
  | .hbm, ⟨i, _⟩ => hbmTy i
  | _, _ => ⟨S16x512x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_call0_v0 : Ref sig .tc := ⟨.hbm, 13, rfl⟩
abbrev main_call0_v1_0 : Ref sig .tc := ⟨.hbm, 14, rfl⟩
abbrev main_v1 : Ref sig .tc := ⟨.hbm, 15, rfl⟩
abbrev main_call1_v0 : Ref sig .tc := ⟨.hbm, 16, rfl⟩
abbrev main_call1_v1_0 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_call2_v0 : Ref sig .tc := ⟨.hbm, 41, rfl⟩
abbrev main_call2_v1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25_0 : Ref sig .tc := ⟨.hbm, 51, rfl⟩
abbrev main_v25_1 : Ref sig .tc := ⟨.hbm, 52, rfl⟩
abbrev main_v25_2 : Ref sig .tc := ⟨.hbm, 53, rfl⟩
abbrev main_v25_3 : Ref sig .tc := ⟨.hbm, 54, rfl⟩
abbrev main_v25_4 : Ref sig .tc := ⟨.hbm, 55, rfl⟩
abbrev main_v25_5 : Ref sig .tc := ⟨.hbm, 56, rfl⟩
abbrev main_v25_6 : Ref sig .tc := ⟨.hbm, 57, rfl⟩
abbrev main_v25_7 : Ref sig .tc := ⟨.hbm, 58, rfl⟩
abbrev main_v25_8 : Ref sig .tc := ⟨.hbm, 59, rfl⟩
abbrev main_v25_9 : Ref sig .tc := ⟨.hbm, 60, rfl⟩
abbrev main_v25_10 : Ref sig .tc := ⟨.hbm, 61, rfl⟩
abbrev main_v25_11 : Ref sig .tc := ⟨.hbm, 62, rfl⟩
abbrev main_v25_12 : Ref sig .tc := ⟨.hbm, 63, rfl⟩
abbrev main_v25_13 : Ref sig .tc := ⟨.hbm, 64, rfl⟩
abbrev main_v25_14 : Ref sig .tc := ⟨.hbm, 65, rfl⟩
abbrev main_v25_15 : Ref sig .tc := ⟨.hbm, 66, rfl⟩
abbrev main_while0c_c_28 : Ref sig .tc := ⟨.hbm, 67, rfl⟩
abbrev main_while0c_v58 : Ref sig .tc := ⟨.hbm, 68, rfl⟩
abbrev main_while0b_call3_c : Ref sig .tc := ⟨.hbm, 69, rfl⟩
abbrev main_while0b_call3_c_0 : Ref sig .tc := ⟨.hbm, 70, rfl⟩
abbrev main_while0b_call3_v0 : Ref sig .tc := ⟨.hbm, 71, rfl⟩
abbrev main_while0b_v58 : Ref sig .tc := ⟨.hbm, 72, rfl⟩
abbrev main_while0b_call4_v0 : Ref sig .tc := ⟨.hbm, 73, rfl⟩
abbrev main_while0b_v59 : Ref sig .tc := ⟨.hbm, 74, rfl⟩
abbrev main_while0b_call5_c : Ref sig .tc := ⟨.hbm, 75, rfl⟩
abbrev main_while0b_call5_c_0 : Ref sig .tc := ⟨.hbm, 76, rfl⟩
abbrev main_while0b_call5_v0 : Ref sig .tc := ⟨.hbm, 77, rfl⟩
abbrev main_while0b_v60 : Ref sig .tc := ⟨.hbm, 78, rfl⟩
abbrev main_while0b_call6_v0 : Ref sig .tc := ⟨.hbm, 79, rfl⟩
abbrev main_while0b_v61 : Ref sig .tc := ⟨.hbm, 80, rfl⟩
abbrev main_while0b_v62 : Ref sig .tc := ⟨.hbm, 81, rfl⟩
abbrev main_while0b_v63 : Ref sig .tc := ⟨.hbm, 82, rfl⟩
abbrev main_while0b_v64 : Ref sig .tc := ⟨.hbm, 83, rfl⟩
abbrev main_while0b_v65 : Ref sig .tc := ⟨.hbm, 84, rfl⟩
abbrev main_while0b_v66 : Ref sig .tc := ⟨.hbm, 85, rfl⟩
abbrev main_while0b_v67 : Ref sig .tc := ⟨.hbm, 86, rfl⟩
abbrev main_while0b_v68 : Ref sig .tc := ⟨.hbm, 87, rfl⟩
abbrev main_while0b_v69 : Ref sig .tc := ⟨.hbm, 88, rfl⟩
abbrev main_while0b_v70 : Ref sig .tc := ⟨.hbm, 89, rfl⟩
abbrev main_while0b_v71 : Ref sig .tc := ⟨.hbm, 90, rfl⟩
abbrev main_while0b_v72 : Ref sig .tc := ⟨.hbm, 91, rfl⟩
abbrev main_while0b_v73 : Ref sig .tc := ⟨.hbm, 92, rfl⟩
abbrev main_while0b_v74 : Ref sig .tc := ⟨.hbm, 93, rfl⟩
abbrev main_while0b_v75 : Ref sig .tc := ⟨.hbm, 94, rfl⟩
abbrev main_while0b_v76 : Ref sig .tc := ⟨.hbm, 95, rfl⟩
abbrev main_while0b_v77 : Ref sig .tc := ⟨.hbm, 96, rfl⟩
abbrev main_while0b_v78 : Ref sig .tc := ⟨.hbm, 97, rfl⟩
abbrev main_while0b_v79 : Ref sig .tc := ⟨.hbm, 98, rfl⟩
abbrev main_while0b_v80 : Ref sig .tc := ⟨.hbm, 99, rfl⟩
abbrev main_while0b_v81 : Ref sig .tc := ⟨.hbm, 100, rfl⟩
abbrev main_while0b_v82 : Ref sig .tc := ⟨.hbm, 101, rfl⟩
abbrev main_while0b_v83 : Ref sig .tc := ⟨.hbm, 102, rfl⟩
abbrev main_while0b_cst_28 : Ref sig .tc := ⟨.hbm, 103, rfl⟩
abbrev main_while0b_v84 : Ref sig .tc := ⟨.hbm, 104, rfl⟩
abbrev main_while0b_v85 : Ref sig .tc := ⟨.hbm, 105, rfl⟩
abbrev main_while0b_cst_29 : Ref sig .tc := ⟨.hbm, 106, rfl⟩
abbrev main_while0b_v86 : Ref sig .tc := ⟨.hbm, 107, rfl⟩
abbrev main_while0b_v87 : Ref sig .tc := ⟨.hbm, 108, rfl⟩
abbrev main_while0b_v88 : Ref sig .tc := ⟨.hbm, 109, rfl⟩
abbrev main_while0b_v89 : Ref sig .tc := ⟨.hbm, 110, rfl⟩
abbrev main_while0b_v90 : Ref sig .tc := ⟨.hbm, 111, rfl⟩
abbrev main_while0b_cst_30 : Ref sig .tc := ⟨.hbm, 112, rfl⟩
abbrev main_while0b_v91 : Ref sig .tc := ⟨.hbm, 113, rfl⟩
abbrev main_while0b_v92 : Ref sig .tc := ⟨.hbm, 114, rfl⟩
abbrev main_while0b_cst_31 : Ref sig .tc := ⟨.hbm, 115, rfl⟩
abbrev main_while0b_v93 : Ref sig .tc := ⟨.hbm, 116, rfl⟩
abbrev main_while0b_v94 : Ref sig .tc := ⟨.hbm, 117, rfl⟩
abbrev main_while0b_v95 : Ref sig .tc := ⟨.hbm, 118, rfl⟩
abbrev main_while0b_v96 : Ref sig .tc := ⟨.hbm, 119, rfl⟩
abbrev main_while0b_v97 : Ref sig .tc := ⟨.hbm, 120, rfl⟩
abbrev main_while0b_cst_32 : Ref sig .tc := ⟨.hbm, 121, rfl⟩
abbrev main_while0b_v98 : Ref sig .tc := ⟨.hbm, 122, rfl⟩
abbrev main_while0b_v99 : Ref sig .tc := ⟨.hbm, 123, rfl⟩
abbrev main_while0b_v100 : Ref sig .tc := ⟨.hbm, 124, rfl⟩
abbrev main_while0b_v101 : Ref sig .tc := ⟨.hbm, 125, rfl⟩
abbrev main_while0b_v102 : Ref sig .tc := ⟨.hbm, 126, rfl⟩
abbrev main_while0b_call7_v0 : Ref sig .tc := ⟨.hbm, 127, rfl⟩
abbrev main_while0b_v103 : Ref sig .tc := ⟨.hbm, 128, rfl⟩
abbrev main_while0b_v104 : Ref sig .tc := ⟨.hbm, 129, rfl⟩
abbrev main_while0b_v105 : Ref sig .tc := ⟨.hbm, 130, rfl⟩
abbrev main_while0b_v106 : Ref sig .tc := ⟨.hbm, 131, rfl⟩
abbrev main_while0b_v107 : Ref sig .tc := ⟨.hbm, 132, rfl⟩
abbrev main_while0b_v108 : Ref sig .tc := ⟨.hbm, 133, rfl⟩
abbrev main_while0b_v109 : Ref sig .tc := ⟨.hbm, 134, rfl⟩
abbrev main_while0b_v110 : Ref sig .tc := ⟨.hbm, 135, rfl⟩
abbrev main_while0b_v111 : Ref sig .tc := ⟨.hbm, 136, rfl⟩
abbrev main_while0b_v112 : Ref sig .tc := ⟨.hbm, 137, rfl⟩
abbrev main_while0b_v113 : Ref sig .tc := ⟨.hbm, 138, rfl⟩
abbrev main_while0b_v114 : Ref sig .tc := ⟨.hbm, 139, rfl⟩
abbrev main_while0b_v115 : Ref sig .tc := ⟨.hbm, 140, rfl⟩
abbrev main_while0b_v116 : Ref sig .tc := ⟨.hbm, 141, rfl⟩
abbrev main_while0b_v117 : Ref sig .tc := ⟨.hbm, 142, rfl⟩
abbrev main_while0b_v118 : Ref sig .tc := ⟨.hbm, 143, rfl⟩
abbrev main_while0b_v119 : Ref sig .tc := ⟨.hbm, 144, rfl⟩
abbrev main_while0b_v120 : Ref sig .tc := ⟨.hbm, 145, rfl⟩
abbrev main_while0b_v121 : Ref sig .tc := ⟨.hbm, 146, rfl⟩
abbrev main_while0b_v122 : Ref sig .tc := ⟨.hbm, 147, rfl⟩
abbrev main_while0b_v123 : Ref sig .tc := ⟨.hbm, 148, rfl⟩
abbrev main_while0b_v124 : Ref sig .tc := ⟨.hbm, 149, rfl⟩
abbrev main_while0b_v125 : Ref sig .tc := ⟨.hbm, 150, rfl⟩
abbrev main_while0b_cst_33 : Ref sig .tc := ⟨.hbm, 151, rfl⟩
abbrev main_while0b_v126 : Ref sig .tc := ⟨.hbm, 152, rfl⟩
abbrev main_while0b_v127 : Ref sig .tc := ⟨.hbm, 153, rfl⟩
abbrev main_while0b_cst_34 : Ref sig .tc := ⟨.hbm, 154, rfl⟩
abbrev main_while0b_v128 : Ref sig .tc := ⟨.hbm, 155, rfl⟩
abbrev main_while0b_v129 : Ref sig .tc := ⟨.hbm, 156, rfl⟩
abbrev main_while0b_v130 : Ref sig .tc := ⟨.hbm, 157, rfl⟩
abbrev main_while0b_v131 : Ref sig .tc := ⟨.hbm, 158, rfl⟩
abbrev main_while0b_v132 : Ref sig .tc := ⟨.hbm, 159, rfl⟩
abbrev main_while0b_cst_35 : Ref sig .tc := ⟨.hbm, 160, rfl⟩
abbrev main_while0b_v133 : Ref sig .tc := ⟨.hbm, 161, rfl⟩
abbrev main_while0b_v134 : Ref sig .tc := ⟨.hbm, 162, rfl⟩
abbrev main_while0b_cst_36 : Ref sig .tc := ⟨.hbm, 163, rfl⟩
abbrev main_while0b_v135 : Ref sig .tc := ⟨.hbm, 164, rfl⟩
abbrev main_while0b_v136 : Ref sig .tc := ⟨.hbm, 165, rfl⟩
abbrev main_while0b_v137 : Ref sig .tc := ⟨.hbm, 166, rfl⟩
abbrev main_while0b_v138 : Ref sig .tc := ⟨.hbm, 167, rfl⟩
abbrev main_while0b_v139 : Ref sig .tc := ⟨.hbm, 168, rfl⟩
abbrev main_while0b_cst_37 : Ref sig .tc := ⟨.hbm, 169, rfl⟩
abbrev main_while0b_v140 : Ref sig .tc := ⟨.hbm, 170, rfl⟩
abbrev main_while0b_v141 : Ref sig .tc := ⟨.hbm, 171, rfl⟩
abbrev main_while0b_v142 : Ref sig .tc := ⟨.hbm, 172, rfl⟩
abbrev main_while0b_v143 : Ref sig .tc := ⟨.hbm, 173, rfl⟩
abbrev main_while0b_v144 : Ref sig .tc := ⟨.hbm, 174, rfl⟩
abbrev main_while0b_call8_v0 : Ref sig .tc := ⟨.hbm, 175, rfl⟩
abbrev main_while0b_v145 : Ref sig .tc := ⟨.hbm, 176, rfl⟩
abbrev main_while0b_c_38 : Ref sig .tc := ⟨.hbm, 177, rfl⟩
abbrev main_while0b_v146 : Ref sig .tc := ⟨.hbm, 178, rfl⟩
abbrev main_v26 : Ref sig .tc := ⟨.hbm, 179, rfl⟩
abbrev main_c_6 : Ref sig .tc := ⟨.hbm, 180, rfl⟩
abbrev main_v27 : Ref sig .tc := ⟨.hbm, 181, rfl⟩
abbrev main_v28 : Ref sig .tc := ⟨.hbm, 182, rfl⟩
abbrev main_c_7 : Ref sig .tc := ⟨.hbm, 183, rfl⟩
abbrev main_v29 : Ref sig .tc := ⟨.hbm, 184, rfl⟩
abbrev main_v30 : Ref sig .tc := ⟨.hbm, 185, rfl⟩
abbrev main_v31 : Ref sig .tc := ⟨.hbm, 186, rfl⟩
abbrev main_v32 : Ref sig .tc := ⟨.hbm, 187, rfl⟩
abbrev main_v33 : Ref sig .tc := ⟨.hbm, 188, rfl⟩
abbrev main_cst_8 : Ref sig .tc := ⟨.hbm, 189, rfl⟩
abbrev main_v34 : Ref sig .tc := ⟨.hbm, 190, rfl⟩
abbrev main_v35 : Ref sig .tc := ⟨.hbm, 191, rfl⟩
abbrev main_cst_9 : Ref sig .tc := ⟨.hbm, 192, rfl⟩
abbrev main_v36 : Ref sig .tc := ⟨.hbm, 193, rfl⟩
abbrev main_v37 : Ref sig .tc := ⟨.hbm, 194, rfl⟩
abbrev main_v38 : Ref sig .tc := ⟨.hbm, 195, rfl⟩
abbrev main_v39 : Ref sig .tc := ⟨.hbm, 196, rfl⟩
abbrev main_v40 : Ref sig .tc := ⟨.hbm, 197, rfl⟩
abbrev main_cst_10 : Ref sig .tc := ⟨.hbm, 198, rfl⟩
abbrev main_v41 : Ref sig .tc := ⟨.hbm, 199, rfl⟩
abbrev main_v42 : Ref sig .tc := ⟨.hbm, 200, rfl⟩
abbrev main_cst_11 : Ref sig .tc := ⟨.hbm, 201, rfl⟩
abbrev main_v43 : Ref sig .tc := ⟨.hbm, 202, rfl⟩
abbrev main_v44 : Ref sig .tc := ⟨.hbm, 203, rfl⟩
abbrev main_v45 : Ref sig .tc := ⟨.hbm, 204, rfl⟩
abbrev main_v46 : Ref sig .tc := ⟨.hbm, 205, rfl⟩
abbrev main_cst_12 : Ref sig .tc := ⟨.hbm, 206, rfl⟩
abbrev main_v47 : Ref sig .tc := ⟨.hbm, 207, rfl⟩
abbrev main_v48 : Ref sig .tc := ⟨.hbm, 208, rfl⟩
abbrev main_v49 : Ref sig .tc := ⟨.hbm, 209, rfl⟩
abbrev main_v50 : Ref sig .tc := ⟨.hbm, 210, rfl⟩
abbrev main_v51 : Ref sig .tc := ⟨.hbm, 211, rfl⟩
abbrev main_v52 : Ref sig .tc := ⟨.hbm, 212, rfl⟩
abbrev main_v53 : Ref sig .tc := ⟨.hbm, 213, rfl⟩
abbrev main_v54 : Ref sig .tc := ⟨.hbm, 214, rfl⟩
abbrev main_v55 : Ref sig .tc := ⟨.hbm, 215, rfl⟩
abbrev main_v56 : Ref sig .tc := ⟨.hbm, 216, rfl⟩
abbrev main_v57 : Ref sig .tc := ⟨.hbm, 217, rfl⟩

abbrev nD : Nat := 1
abbrev τ : Topo := Topo.v7x

variable {F : FTy → Type} [FloatOps F]

abbrev main_while0_count : Scf.Loop 32 := ⟨0#32, 512#32, 1#32⟩
-- ==== Proof.RefKeep.lean ====
module

public import proofs.«01_k».proof.Defs
public import proofs.«01_k».proof.Proof.Gen.ReferenceIdeal
public import proofs.«01_k».proof.Proof.Gen.ReferenceIdeal.Run
public import Idealize.ShloMosaic.Lib.Quiescent

/-!
What the reference leaves alone: a buffer that no operation of its loop writes holds after any number of trips
what it held before the first, and a buffer that nothing writes holds at the end what the program was given.
The reference's frame follows.
-/

@[expose] public section

set_option maxRecDepth 16384

noncomputable section

namespace Cert.Gru.Ref

open Idealize.ShloMosaic Idealize.ShloMosaic.TcCoe Idealize.SL.Sem
open Idealize.ShloMosaic.StableHlo
open Cert.ReferenceIdeal Cert.ReferenceIdeal.Gen Cert.ReferenceIdeal.Value

variable {F : FTy → Type} [FloatOps F]

/-- Every buffer one trip of the loop writes. -/
def loopW : List (Ref sig .tc) :=
  condOps_W ++ (while0Ops0_W ++ while0Ops0_1_W ++ while0Ops0_2_W ++ while0Ops0_3_W ++ while0Ops0_4_W
    ++ while0Ops0_5_W ++ while0Ops0_6_W ++ while0Ops0_7_W ++ while0Ops0_8_W)

/-- The condition keeps a buffer the loop does not write. -/
theorem cond_keep {r : Ref sig .tc} (h : r ∉ loopW) (V : Valuation τ sig (Elt F)) :
    after condOps V (Proc.devRef .tc r) = V (Proc.devRef .tc r) := by
  simp only [loopW, List.mem_append, not_or] at h
  exact after_of_writes_sub condOps V condOps_writes h.1

/-- The body keeps a buffer the loop does not write. -/
theorem body_keep {r : Ref sig .tc} (h : r ∉ loopW) (V : Valuation τ sig (Elt F)) :
    afterL bodyI V (Proc.devRef .tc r) = V (Proc.devRef .tc r) := by
  simp only [loopW, List.mem_append, not_or] at h
  obtain ⟨-, ⟨⟨⟨⟨⟨⟨⟨h0, h1⟩, h2⟩, h3⟩, h4⟩, h5⟩, h6⟩, h7⟩, h8⟩ := h
  simp only [bodyI, afterL_cons, afterL_nil]
  rw [after_of_writes_sub while0Ops0_8 _ while0Ops0_8_writes h8, after_of_writes_sub while0Ops0_7 _ while0Ops0_7_writes h7,
    after_of_writes_sub while0Ops0_6 _ while0Ops0_6_writes h6, after_of_writes_sub while0Ops0_5 _ while0Ops0_5_writes h5,
    after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0]

variable (m : (ℓ : Loc nD τ sig) → Buf (Elt F) ℓ) (ρ : Dev nD → PrngReg)

/-- Any number of trips keeps a buffer the loop does not write. -/
theorem loop_keep {r : Ref sig .tc} (h : r ∉ loopW) (c : Dev nD) :
    ∀ k, atK m k c (Proc.devRef .tc r) = entryContents preI m c (Proc.devRef .tc r)
  | 0 => rfl
  | k + 1 => by
    rw [show atK m (k + 1) c = afterL bodyI (after condOps (atK m k c)) from rfl, body_keep h, cond_keep h, loop_keep h c k]

/-- Every buffer the operations before the loop write. -/
def preW : List (Ref sig .tc) :=
  hostOps0_W ++ hostOps0_1_W ++ hostOps0_2_W ++ hostOps0_3_W ++ hostOps0_4_W ++ hostOps0_5_W

/-- The operations before the loop keep a buffer they do not write. -/
theorem entry_keep {r : Ref sig .tc} (h : r ∉ preW) (c : Dev nD) :
    entryContents preI m c (Proc.devRef .tc r) = launchContents m c (Proc.devRef .tc r) := by
  simp only [preW, List.mem_append, not_or] at h
  obtain ⟨⟨⟨⟨⟨h0, h1⟩, h2⟩, h3⟩, h4⟩, h5⟩ := h
  simp only [entryContents, preI, afterL_cons, afterL_nil]
  rw [after_of_writes_sub hostOps0_5 _ hostOps0_5_writes h5, after_of_writes_sub hostOps0_4 _ hostOps0_4_writes h4,
    after_of_writes_sub hostOps0_3 _ hostOps0_3_writes h3, after_of_writes_sub hostOps0_2 _ hostOps0_2_writes h2,
    after_of_writes_sub hostOps0_1 _ hostOps0_1_writes h1, after_of_writes_sub hostOps0 _ hostOps0_writes h0]

/-- Every buffer the operations after the loop write, in order. -/
def postW : List (Ref sig .tc) :=
  [main_v26, main_c_6, main_v27, main_v28, main_c_7, main_v29, main_v30, main_v31, main_v32, main_v33,
   main_cst_8, main_v34, main_v35, main_cst_9, main_v36, main_v37, main_v38, main_v39, main_v40, main_cst_10,
   main_v41, main_v42, main_cst_11, main_v43, main_v44, main_v45, main_v46, main_cst_12, main_v47, main_v48,
   main_v49, main_v50, main_v51, main_v52, main_v53, main_v54, main_v55, main_v56, main_v57]

/-- The operations after the loop write those buffers only. -/
theorem post_writes : (hostOps0_6 : List (HloOp τ sig (Elt F))).Forall fun op =>
    op.writes ⊆ (postW.map (Proc.devRef (τ := τ) .tc)).toFinset :=
  forall_writes_sub_of_map rfl

/-- A buffer nothing writes ends as the program was given it. -/
theorem final_keep {r : Ref sig .tc} (h : r ∉ preW) (h' : r ∉ loopW) (h'' : r ∉ postW) (c : Dev nD) :
    finalContents condOps preI bodyI postI 512 m c (Proc.devRef .tc r) = m ((c.tc : Thread nD τ).loc r) := by
  simp only [finalContents, postI, afterL_cons, afterL_nil]
  rw [after_of_writes_sub hostOps0_6 _ post_writes h'', cond_keep h']
  refine (loop_keep m h' c 512).trans ?_
  rw [entry_keep m h c]

/-- The reference ends with its arguments as they were given and its counters at zero. -/
theorem frame : θ_run (defs (F := F)) (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  refine (θ_run _ _ _).mono (fun r h => ⟨fun c => ?_, sem_eq_zero_of_no_sems (by decide) r.2⟩) (run_fold (F := F) m ρ)
  refine ⟨?_, ?_, ?_, ?_, ?_, ?_, ?_, ?_, ?_, ?_, ?_, ?_⟩
  all_goals exact (h c _ rfl).trans (final_keep m (by decide) (by decide) (by decide) c)

end Cert.Gru.Ref
-- ==== Proof.Spec.lean ====
module

public import Idealize.ShloMosaic.Lib.Pointwise
public import Idealize.ShloMosaic.Lib.WordCmp

/-!
The mathematics both programs compute, written for one row of the batch: one cell of the recurrence, one step
of one direction, and the state after any number of steps. Everything is over the extended reals.
-/

@[expose] public section

noncomputable section

namespace Cert.Gru

open Idealize.ShloMosaic

/-- One unit of a gated recurrent cell: from the three input parts `gr gz gn` and the three hidden parts
`hr hz hn` of its gates and its old value `h`, the new value `(1 - z) * n + z * h`. -/
def cell (gr gz gn hr hz hn h : EReal) : EReal :=
  (1 - Ideal.logistic (gz + hz)) * Ideal.tanh (gn + Ideal.logistic (gr + hr) * hn) + Ideal.logistic (gz + hz) * h

/-- The reset row of the 768 gate rows for unit `u`. -/
def rowR (u : Fin 256) : Fin 768 := ⟨u.val, by omega⟩
/-- The update row of the 768 gate rows for unit `u`. -/
def rowZ (u : Fin 256) : Fin 768 := ⟨256 + u.val, by omega⟩
/-- The candidate row of the 768 gate rows for unit `u`. -/
def rowN (u : Fin 256) : Fin 768 := ⟨512 + u.val, by omega⟩

/-- One gate row: the product with a weight row, and the bias. -/
def lin {n : ℕ} (W : Fin 768 → Fin n → EReal) (b : Fin 768 → EReal) (x : Fin n → EReal) (g : Fin 768) : EReal :=
  (∑ k, x k * W g k) + b g

/-- The weights of one direction. -/
structure Weights where
  /-- input weights -/
  wi : Fin 768 → Fin 300 → EReal
  /-- recurrent weights -/
  wh : Fin 768 → Fin 256 → EReal
  /-- input bias -/
  bi : Fin 768 → EReal
  /-- recurrent bias -/
  bh : Fin 768 → EReal

/-- One step of one direction: the new hidden row from the word `x` and the old hidden row `h`. -/
def step (w : Weights) (x : Fin 300 → EReal) (h : Fin 256 → EReal) (u : Fin 256) : EReal :=
  cell (lin w.wi w.bi x (rowR u)) (lin w.wi w.bi x (rowZ u)) (lin w.wi w.bi x (rowN u))
    (lin w.wh w.bh h (rowR u)) (lin w.wh w.bh h (rowZ u)) (lin w.wh w.bh h (rowN u)) (h u)

open Classical in
/-- The hidden row after `n` steps from zero: step `k` reads word `x k`, and is skipped where `live k` fails. -/
def run (w : Weights) (x : ℕ → Fin 300 → EReal) (live : ℕ → Prop) : ℕ → Fin 256 → EReal
  | 0 => fun _ => 0
  | k + 1 => if live k then step w (x k) (run w x live k) else run w x live k

open Classical in
/-- What one more step does to the hidden row. -/
theorem run_succ (w : Weights) (x : ℕ → Fin 300 → EReal) (live : ℕ → Prop) (k : ℕ) :
    run w x live (k + 1) = if live k then step w (x k) (run w x live k) else run w x live k := rfl

/-- The first 512 steps read only the first 512 words: two runs whose words and liveness agree there agree. -/
theorem run_congr (w : Weights) {x x' : ℕ → Fin 300 → EReal} {live live' : ℕ → Prop} (n : ℕ)
    (hx : ∀ k, k < n → x k = x' k) (hl : ∀ k, k < n → (live k ↔ live' k)) :
    run w x live n = run w x' live' n := by
  classical
  induction n with
  | zero => rfl
  | succ k ih =>
    rw [run_succ, run_succ, ih (fun j hj => hx j (by omega)) (fun j hj => hl j (by omega)), hx k (by omega)]
    by_cases h : live k
    · rw [if_pos h, if_pos ((hl k (by omega)).1 h)]
    · rw [if_neg h, if_neg (fun h' => h ((hl k (by omega)).2 h'))]

/-- The kernel adds the recurrent biases of the reset and update gates to the input part instead of the recurrent
part: the cell is the same, since addition is associative and commutative. -/
theorem cell_regroup (a₁ a₂ a₃ b₁ b₂ c₁ c₂ d₁ d₂ e h : EReal) :
    cell (a₁ + (c₁ + d₁)) (a₂ + (c₂ + d₂)) a₃ b₁ b₂ e h = cell (a₁ + c₁) (a₂ + c₂) a₃ (b₁ + d₁) (b₂ + d₂) e h := by
  have e1 : a₁ + (c₁ + d₁) + b₁ = a₁ + c₁ + (b₁ + d₁) := by ac_rfl
  have e2 : a₂ + (c₂ + d₂) + b₂ = a₂ + c₂ + (b₂ + d₂) := by ac_rfl
  unfold cell
  rw [e1, e2]

/-- A choice by a signed comparison of two words is a choice by the comparison of the integers they hold. -/
theorem select_slt {α : Type} (x y : BitVec 32) (a b : α) :
    Scalar.select (IntOp.cmpi .slt x y) a b = if x.toInt < y.toInt then a else b := by
  unfold Scalar.select
  rw [WordCmp.cmpi_slt_eq]
  by_cases h : x.toInt < y.toInt <;> simp [h]

/-- The word of a small number holds that number. -/
theorem toInt_ofNat (k : ℕ) (h : k < 512) : (BitVec.ofNat 32 k).toInt = k := by
  rw [BitVec.toInt_eq_toNat_of_lt] <;> simp [BitVec.toNat_ofNat] <;> omega

/-- The words of one row as a sequence. -/
def seq (x : Fin 512 → Fin 300 → EReal) (t : ℕ) : Fin 300 → EReal := if h : t < 512 then x ⟨t, h⟩ else fun _ => 0

/-- A word of the sequence inside the row. -/
theorem seq_of_lt (x : Fin 512 → Fin 300 → EReal) (k : Fin 512) : seq x k.val = x k := dif_pos k.isLt

/-- The forward hidden row after `n` steps: word 0 first, the words at or past the length skipped. -/
def fwd (w : Weights) (x : Fin 512 → Fin 300 → EReal) (len : ℤ) (n : ℕ) : Fin 256 → EReal :=
  run w (seq x) (fun t => (t : ℤ) < len) n

/-- The backward hidden row after `n` steps: word 511 first, the words at or past the length skipped. -/
def bwd (w : Weights) (x : Fin 512 → Fin 300 → EReal) (len : ℤ) (n : ℕ) : Fin 256 → EReal :=
  run w (fun t => seq x (511 - t)) (fun t => ((511 - t : ℕ) : ℤ) < len) n

/-- One more forward step. -/
theorem fwd_succ (w : Weights) (x : Fin 512 → Fin 300 → EReal) (len : ℤ) (k : Fin 512) (u : Fin 256) :
    fwd w x len (k.val + 1) u = if (k.val : ℤ) < len then step w (x k) (fwd w x len k.val) u else fwd w x len k.val u := by
  unfold fwd
  rw [run_succ, seq_of_lt]
  split_ifs <;> rfl

/-- One more backward step. -/
theorem bwd_succ (w : Weights) (x : Fin 512 → Fin 300 → EReal) (len : ℤ) (k : Fin 512) (u : Fin 256) :
    bwd w x len (k.val + 1) u
      = if ((511 - k.val : ℕ) : ℤ) < len then step w (x k.rev) (bwd w x len k.val) u else bwd w x len k.val u := by
  have e : 511 - k.val = k.rev.val := by rw [Fin.val_rev]; omega
  unfold bwd
  rw [run_succ, show seq x (511 - k.val) = x k.rev by rw [e]; exact seq_of_lt x k.rev]
  split_ifs <;> rfl

end Cert.Gru
-- ==== Proof.KTrip.lean ====
module

public import proofs.«01_k».proof.Proof.Gen.KernelIdeal.Loops
public import Idealize.ShloMosaic.Lib.Pointwise
public import Idealize.ShloMosaic.Lib.VecWindow
public import Idealize.ShloMosaic.Lib.WholeRead
public import Idealize.ShloMosaic.Lib.Pipeline.ValueKit
public import proofs.«01_k».proof.Proof.Spec

/-!
One trip of the kernel's inner loop, read row by row: each direction's hidden row steps by the cell where the trip's
time lies below the row's length and stays as it was elsewhere.
-/

@[expose] public section

set_option maxRecDepth 16384

noncomputable section

namespace Cert.Gru.Ker

open Idealize.ShloMosaic Idealize.ShloMosaic.TcCoe Idealize.SL.Sem
open Cert.KernelIdeal Cert.KernelIdeal.Gen

/-- The time of trip `k` at grid point `a0`. -/
def time (a0 : BitVec 32) (k : ℕ) : BitVec 32 := Scalar.addi (Scalar.muli a0 128#32) (Scf.iv 0#32 1#32 k)

/-- The forward hidden array after a trip: from the trip's input block `x` and the array `h` before it. -/
def newF (a0 : BitVec 32) (len : IVec S16x256 32) (w : FVec Ideal S256x768 .bf16) (bn : FVec Ideal S1x256 .f32)
    (k : Fin k0_t1_loop.trips) (h : FVec Ideal S16x256 .f32) (x : FVec Ideal S16x768 .bf16) : FVec Ideal S16x256 .f32 :=
  k0_pay8 a0 len (k0_pay1 w) (k0_pay3 bn) 0#32 1#32 k h x

/-- The backward hidden array after a trip. -/
def newB (a0 : BitVec 32) (len : IVec S16x256 32) (w : FVec Ideal S256x768 .bf16) (bn : FVec Ideal S1x256 .f32)
    (k : Fin k0_t1_loop.trips) (h : FVec Ideal S16x256 .f32) (x : FVec Ideal S16x768 .bf16) : FVec Ideal S16x256 .f32 :=
  k0_pay4 len bn h (Scalar.subi 511#32 (time a0 k)) (k0_pay11 (k0_pay2 w) h x) (k0_pay12 (k0_pay2 w) h x) (k0_pay13 x)
    (k0_pay14 (k0_pay2 w) h)

/-- What a row of one direction becomes in a trip at time `T`: the cell of the row's gate inputs `x` and its hidden row
where the time lies below the length, else what it was. -/
def rowStep (T len : BitVec 32) (w : Fin 256 → Fin 768 → EReal) (bn : Fin 256 → EReal) (h : Fin 256 → EReal)
    (x : Fin 768 → EReal) (u : Fin 256) : EReal :=
  if T.toInt < len.toInt then
    cell (x (rowR u)) (x (rowZ u)) (x (rowN u)) (∑ v, h v * w v (rowR u)) (∑ v, h v * w v (rowZ u))
      ((∑ v, h v * w v (rowN u)) + bn u) (h u)
  else h u

/-- The forward trip, row by row. -/
theorem newF_apply (a0 : BitVec 32) (len : IVec S16x256 32) (w : FVec Ideal S256x768 .bf16) (bn : FVec Ideal S1x256 .f32)
    (k : Fin k0_t1_loop.trips) (h : FVec Ideal S16x256 .f32) (x : FVec Ideal S16x768 .bf16) (b : Fin 16) (u : Fin 256) :
    newF a0 len w bn k h x (ix2 b u)
      = rowStep (time a0 k) (len (ix2 b u)) (fun v g => w (ix2 v g)) (fun v => bn (ix2 (0 : Fin 1) v)) (fun v => h (ix2 b v))
          (fun g => x (ix2 b g)) u := by
  pointwise [newF, k0_pay8, k0_pay1, k0_pay3]
  rw [select_slt]
  rfl

/-- The backward trip, row by row. -/
theorem newB_apply (a0 : BitVec 32) (len : IVec S16x256 32) (w : FVec Ideal S256x768 .bf16) (bn : FVec Ideal S1x256 .f32)
    (k : Fin k0_t1_loop.trips) (h : FVec Ideal S16x256 .f32) (x : FVec Ideal S16x768 .bf16) (b : Fin 16) (u : Fin 256) :
    newB a0 len w bn k h x (ix2 b u)
      = rowStep (Scalar.subi 511#32 (time a0 k)) (len (ix2 b u)) (fun v g => w (ix2 v g)) (fun v => bn (ix2 (0 : Fin 1) v))
          (fun v => h (ix2 b v)) (fun g => x (ix2 b g)) u := by
  pointwise [newB, k0_pay4, k0_pay11, k0_pay12, k0_pay13, k0_pay14, k0_pay9, k0_pay10, k0_pay2]
  rw [select_slt]
  rfl

/-- The gate inputs of a word `x` as the kernel holds them: the recurrent biases of the reset and update gates already
added. -/
def Folded (W : Weights) (y : Fin 768 → EReal) (x : Fin 300 → EReal) : Prop :=
  ∀ u : Fin 256, y (rowR u) = (∑ j, x j * W.wi (rowR u) j) + (W.bi (rowR u) + W.bh (rowR u))
    ∧ y (rowZ u) = (∑ j, x j * W.wi (rowZ u) j) + (W.bi (rowZ u) + W.bh (rowZ u))
    ∧ y (rowN u) = (∑ j, x j * W.wi (rowN u) j) + W.bi (rowN u)

/-- A row's trip from folded gate inputs is one step of the run. -/
theorem rowStep_eq (T len : BitVec 32) (W : Weights) (w : Fin 256 → Fin 768 → EReal) (bn h : Fin 256 → EReal)
    (y : Fin 768 → EReal) (x : Fin 300 → EReal) (u : Fin 256) (hw : ∀ v g, w v g = W.wh g v) (hb : ∀ v, bn v = W.bh (rowN v))
    (hy : Folded W y x) : rowStep T len w bn h y u = if T.toInt < len.toInt then step W x h u else h u := by
  unfold rowStep
  refine if_congr Iff.rfl ?_ rfl
  obtain ⟨h1, h2, h3⟩ := hy u
  rw [h1, h2, h3, cell_regroup, hb]
  simp only [hw]
  rfl

/-- The time of trip `k` at point `t`, as a number. -/
theorem time_toInt (t k : ℕ) (ht : t < 4) (hk : k < 128) : (time (BitVec.ofNat 32 t) k).toInt = ((128 * t + k : ℕ) : ℤ) := by
  have e : time (BitVec.ofNat 32 t) k = BitVec.ofNat 32 (128 * t + k) := by
    apply BitVec.eq_of_toNat_eq
    simp [time, Scf.iv, Scalar.addi, Scalar.muli, IntOp.addi, IntOp.muli]
    omega
  rw [e]
  exact toInt_ofNat _ (by omega)

/-- The backward time of trip `k` at point `t`, as a number. -/
theorem back_toInt (t k : ℕ) (ht : t < 4) (hk : k < 128) :
    (Scalar.subi 511#32 (time (BitVec.ofNat 32 t) k)).toInt = ((511 - (128 * t + k) : ℕ) : ℤ) := by
  have e : Scalar.subi 511#32 (time (BitVec.ofNat 32 t) k) = BitVec.ofNat 32 (511 - (128 * t + k)) := by
    apply BitVec.eq_of_toNat_eq
    simp [time, Scf.iv, Scalar.addi, Scalar.muli, Scalar.subi, IntOp.addi, IntOp.muli, IntOp.subi]
    omega
  rw [e]
  exact toInt_ofNat _ (by omega)

section trip

variable (c : Dev nD) (i : grid0.Coords)
  (arg1 : Memref sig .tc .vmem S16x256 .i32) (harg1 : arg1.IsWhole)
  (arg2 : Memref sig .tc .vmem S2048x300 .bf16) (harg2 : arg2.IsWhole)
  (arg3 : Memref sig .tc .vmem S2048x300 .bf16) (harg3 : arg3.IsWhole)
  (arg4 : Memref sig .tc .vmem S300x768 .bf16) (harg4 : arg4.IsWhole)
  (arg5 : Memref sig .tc .vmem S256x768 .bf16) (harg5 : arg5.IsWhole)
  (arg6 : Memref sig .tc .vmem S1x768 .f32) (harg6 : arg6.IsWhole)
  (arg7 : Memref sig .tc .vmem S1x256 .f32) (harg7 : arg7.IsWhole)
  (arg8 : Memref sig .tc .vmem S300x768 .bf16) (harg8 : arg8.IsWhole)
  (arg9 : Memref sig .tc .vmem S256x768 .bf16) (harg9 : arg9.IsWhole)
  (arg10 : Memref sig .tc .vmem S1x768 .f32) (harg10 : arg10.IsWhole)
  (arg11 : Memref sig .tc .vmem S1x256 .f32) (harg11 : arg11.IsWhole)
  (arg12 : Memref sig .tc .vmem S1x512 .f32) (harg12 : arg12.IsWhole)
  (arg13 : Memref sig .tc .vmem S1x512 .f32) (harg13 : arg13.IsWhole)
  (arg14 : Memref sig .tc .vmem S16x512 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S2048x768 .bf16) (harg17 : arg17.IsWhole)
  (arg18 : Memref sig .tc .vmem S2048x768 .bf16) (harg18 : arg18.IsWhole)
  (a0 : BitVec 32) (len : IVec S16x256 32) (wf wb : FVec Ideal S256x768 .bf16) (bf bb : FVec Ideal S1x256 .f32)
  (XF : BufTy.Contents (Elt Ideal) arg17.view.ty) (XB : BufTy.Contents (Elt Ideal) arg18.view.ty)

/-- A trip steps both hidden arrays, each from sixteen rows of its scratch. -/
theorem trip_eq (k : Fin k0_t1_loop.trips) (acc : FVec Ideal S16x256 .f32 × FVec Ideal S16x256 .f32) :
    tripR_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 len wf wb bf bb XF XB k acc
      = (newF a0 len wf bf k acc.1 (VecWindow.window (arg17.view.read (Elt Ideal) XF) (k0_off1 k) S16x768.size (k0_off1_inb k)),
         newB a0 len wb bb k acc.2 (VecWindow.window (arg18.view.read (Elt Ideal) XB) (k0_off2 k) S16x768.size (k0_off2_inb k))) := by
  unfold tripR_k0_t1 trip_k0_t1
  rfl

/-- The loop makes 128 trips. -/
theorem trips_eq : k0_t1_loop.trips = 128 := by decide

/-- After `j` trips at point `t`, the hidden arrays hold the runs of `128 t + j` steps, if they held those of `128 t` when
the point began and the scratches hold the folded gate inputs of the point's words. -/
theorem st_apply (t : ℕ) (ht : t < 4) (ha0 : a0 = BitVec.ofNat 32 t) (WF WB : Weights) (x : Fin 16 → Fin 512 → Fin 300 → EReal)
    (ℓ : Fin 16 → ℤ) (init : FVec Ideal S16x256 .f32 × FVec Ideal S16x256 .f32)
    (hlen : ∀ b u, (len (ix2 b u)).toInt = ℓ b)
    (hwf : ∀ v g, wf (ix2 v g) = WF.wh g v) (hwb : ∀ v g, wb (ix2 v g) = WB.wh g v)
    (hbf : ∀ u, bf (ix2 (0 : Fin 1) u) = WF.bh (rowN u)) (hbb : ∀ u, bb (ix2 (0 : Fin 1) u) = WB.bh (rowN u))
    (hXF : ∀ (k : Fin 128) (b : Fin 16), Folded WF (fun g => arg17.view.read (Elt Ideal) XF (ix2 (⟨16 * k.val + b.val, by omega⟩ : Fin 2048) g))
      (x b ⟨128 * t + k.val, by omega⟩))
    (hXB : ∀ (k : Fin 128) (b : Fin 16), Folded WB (fun g => arg18.view.read (Elt Ideal) XB (ix2 (⟨2032 - 16 * k.val + b.val, by omega⟩ : Fin 2048) g))
      (x b (Fin.rev ⟨128 * t + k.val, by omega⟩)))
    (hF : ∀ b u, init.1 (ix2 b u) = fwd WF (x b) (ℓ b) (128 * t) u) (hB : ∀ b u, init.2 (ix2 b u) = bwd WB (x b) (ℓ b) (128 * t) u)
    (j : ℕ) (hj : j ≤ 128) :
    (∀ b u, (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 len wf wb bf bb XF XB init j).1 (ix2 b u)
        = fwd WF (x b) (ℓ b) (128 * t + j) u)
      ∧ ∀ b u, (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 len wf wb bf bb XF XB init j).2 (ix2 b u)
        = bwd WB (x b) (ℓ b) (128 * t + j) u := by
  induction j with
  | zero => exact ⟨hF, hB⟩
  | succ j ih =>
    have hj' : j < 128 := by omega
    have hb : j < k0_t1_loop.trips := by rw [trips_eq]; exact hj'
    obtain ⟨ihF, ihB⟩ := ih (by omega)
    have hs := (st_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 len wf wb bf bb XF XB init ⟨j, hb⟩).trans
      (trip_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 len wf wb bf bb XF XB _ _)
    have hs1 := congrArg Prod.fst hs
    have hs2 := congrArg Prod.snd hs
    have e1 := k0_off1_eq ⟨j, hb⟩
    have e2 := k0_off2_eq ⟨j, hb⟩
    constructor
    · intro b u
      refine (congrFun hs1 (ix2 b u)).trans ((newF_apply _ _ _ _ _ _ _ b u).trans ?_)
      have hx : (fun g : Fin 768 => VecWindow.window (arg17.view.read (Elt Ideal) XF) (k0_off1 ⟨j, hb⟩) S16x768.size (k0_off1_inb _) (ix2 b g))
          = fun g => arg17.view.read (Elt Ideal) XF (ix2 (⟨16 * j + b.val, by omega⟩ : Fin 2048) g) := by
        funext g
        refine congrArg (arg17.view.read (Elt Ideal) XF) (funext fun a => Fin.ext ?_)
        match a with
        | ⟨0, _⟩ =>
          show k0_off1 ⟨j, hb⟩ 0 + 1 * b.val = 16 * j + b.val
          rw [e1]; show 16 * j + 1 * b.val = _; omega
        | ⟨1, _⟩ =>
          show k0_off1 ⟨j, hb⟩ 1 + 1 * g.val = g.val
          rw [e1]; show 0 + 1 * g.val = _; omega
      refine (rowStep_eq _ _ WF _ _ _ _ (x b ⟨128 * t + j, by omega⟩) u hwf hbf (hx ▸ hXF ⟨j, hj'⟩ b)).trans ?_
      have hT : (time a0 j).toInt = ((128 * t + j : ℕ) : ℤ) := by rw [ha0]; exact time_toInt t j ht hj'
      have hc : (time a0 j).toInt < (len (ix2 b u)).toInt ↔ ((128 * t + j : ℕ) : ℤ) < ℓ b := by rw [hT, hlen]
      refine (if_congr hc
        (congrFun (congrArg (step WF _) (funext fun v => ihF b v)) u) (ihF b u)).trans ?_
      exact (fwd_succ WF (x b) (ℓ b) ⟨128 * t + j, by omega⟩ u).symm
    · intro b u
      refine (congrFun hs2 (ix2 b u)).trans ((newB_apply _ _ _ _ _ _ _ b u).trans ?_)
      have hx : (fun g : Fin 768 => VecWindow.window (arg18.view.read (Elt Ideal) XB) (k0_off2 ⟨j, hb⟩) S16x768.size (k0_off2_inb _) (ix2 b g))
          = fun g => arg18.view.read (Elt Ideal) XB (ix2 (⟨2032 - 16 * j + b.val, by omega⟩ : Fin 2048) g) := by
        funext g
        refine congrArg (arg18.view.read (Elt Ideal) XB) (funext fun a => Fin.ext ?_)
        match a with
        | ⟨0, _⟩ =>
          show k0_off2 ⟨j, hb⟩ 0 + 1 * b.val = 2032 - 16 * j + b.val
          rw [e2]; show 2032 - 16 * j + 1 * b.val = _; omega
        | ⟨1, _⟩ =>
          show k0_off2 ⟨j, hb⟩ 1 + 1 * g.val = g.val
          rw [e2]; show 0 + 1 * g.val = _; omega
      refine (rowStep_eq _ _ WB _ _ _ _ (x b (Fin.rev ⟨128 * t + j, by omega⟩)) u hwb hbb (hx ▸ hXB ⟨j, hj'⟩ b)).trans ?_
      have hT : (Scalar.subi 511#32 (time a0 j)).toInt = ((511 - (128 * t + j) : ℕ) : ℤ) := by rw [ha0]; exact back_toInt t j ht hj'
      have hc : (Scalar.subi 511#32 (time a0 j)).toInt < (len (ix2 b u)).toInt ↔ ((511 - (128 * t + j) : ℕ) : ℤ) < ℓ b := by rw [hT, hlen]
      refine (if_congr hc
        (congrFun (congrArg (step WB _) (funext fun v => ihB b v)) u) (ihB b u)).trans ?_
      exact (bwd_succ WB (x b) (ℓ b) ⟨128 * t + j, by omega⟩ u).symm

end trip

end Cert.Gru.Ker
-- ==== Proof.KHost.lean ====
module

public import proofs.«01_k».proof.Proof.Gen.KernelIdeal.Value
public import proofs.«01_k».proof.Proof.KTrip
public import Idealize.ShloMosaic.Lib.Pipeline.ValueKit

/-!
What the kernel's operand blocks hold at a grid point, read off the arguments: the host lays the words out time-major,
transposes the weights, folds two thirds of the hidden bias into the input bias, and repeats each length along its row.
-/

@[expose] public section

set_option maxRecDepth 16384

noncomputable section

namespace Cert.Gru.Ker

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-- Which block of its array each window reads at point `t`: the forward words run upwards, the backward words
downwards, every other window has one block. -/
theorem idx : ∀ t : Fin cfg0.N,
    (win0_0.index t 0 = 0 ∧ win0_0.index t 1 = 0) ∧ (win0_1.index t 0 = t.val ∧ win0_1.index t 1 = 0) ∧
    (win0_2.index t 0 = 3 - t.val ∧ win0_2.index t 1 = 0) ∧ (win0_3.index t 0 = 0 ∧ win0_3.index t 1 = 0) ∧
    (win0_4.index t 0 = 0 ∧ win0_4.index t 1 = 0) ∧ (win0_5.index t 0 = 0 ∧ win0_5.index t 1 = 0) ∧
    (win0_6.index t 0 = 0 ∧ win0_6.index t 1 = 0) ∧ (win0_7.index t 0 = 0 ∧ win0_7.index t 1 = 0) ∧
    (win0_8.index t 0 = 0 ∧ win0_8.index t 1 = 0) ∧ (win0_9.index t 0 = 0 ∧ win0_9.index t 1 = 0) ∧
    (win0_10.index t 0 = 0 ∧ win0_10.index t 1 = 0) ∧ (win0_11.index t 0 = 0 ∧ win0_11.index t 1 = 0) ∧
    (win0_12.index t 0 = 0 ∧ win0_12.index t 1 = 0) := by decide

/-- The forward input weights, transposed. -/
theorem blk_wif (j : Fin 300) (g : Fin 768) :
    iblk m c 3 t (ix2 j g) = m ((c : Thread nD τ).loc main_arg1) (ix2 g j) := by
  blk_simp [iblk, idx t]; entry_read; pointwise; blk_ext [idx t]

/-- The backward input weights, transposed. -/
theorem blk_wib (j : Fin 300) (g : Fin 768) :
    iblk m c 7 t (ix2 j g) = m ((c : Thread nD τ).loc main_arg5) (ix2 g j) := by
  blk_simp [iblk, idx t]; entry_read; pointwise; blk_ext [idx t]

/-- The forward hidden weights, transposed. -/
theorem blk_whf (j : Fin 256) (g : Fin 768) :
    iblk m c 4 t (ix2 j g) = m ((c : Thread nD τ).loc main_arg2) (ix2 g j) := by
  blk_simp [iblk, idx t]; entry_read; pointwise; blk_ext [idx t]

/-- The backward hidden weights, transposed. -/
theorem blk_whb (j : Fin 256) (g : Fin 768) :
    iblk m c 8 t (ix2 j g) = m ((c : Thread nD τ).loc main_arg6) (ix2 g j) := by
  blk_simp [iblk, idx t]; entry_read; pointwise; blk_ext [idx t]

/-- The last third of the forward hidden bias. -/
theorem blk_bhf (u : Fin 256) : iblk m c 6 t (ix2 (0 : Fin 1) u) = m ((c : Thread nD τ).loc main_arg4) (ix1 (rowN u)) := by
  blk_simp [iblk, idx t]; entry_read; pointwise; blk_ext [idx t, rowN]

/-- The last third of the backward hidden bias. -/
theorem blk_bhb (u : Fin 256) : iblk m c 10 t (ix2 (0 : Fin 1) u) = m ((c : Thread nD τ).loc main_arg8) (ix1 (rowN u)) := by
  blk_simp [iblk, idx t]; entry_read; pointwise; blk_ext [idx t, rowN]

/-- The scale of the layer norm. -/
theorem blk_g (v : Fin 512) : iblk m c 11 t (ix2 (0 : Fin 1) v) = m ((c : Thread nD τ).loc main_arg9) (ix1 v) := by
  blk_simp [iblk, idx t]; entry_read; pointwise; blk_ext [idx t]

/-- The offset of the layer norm. -/
theorem blk_b (v : Fin 512) : iblk m c 12 t (ix2 (0 : Fin 1) v) = m ((c : Thread nD τ).loc main_arg10) (ix1 v) := by
  blk_simp [iblk, idx t]; entry_read; pointwise; blk_ext [idx t]

/-- The input bias with the hidden bias added on the first 512 rows, which are the rows of the two gates. -/
def addBias (bi bh : FVec Ideal S768 .f32) (g : Fin 768) : EReal :=
  bi (ix1 g) + (if g.val < 512 then bh (ix1 g) else 0)

/-- The forward bias: the whole input bias, and the hidden bias added on the first 512 rows. -/
theorem blk_bf (g : Fin 768) : iblk m c 5 t (ix2 (0 : Fin 1) g) =
    addBias (m ((c : Thread nD τ).loc main_arg3)) (m ((c : Thread nD τ).loc main_arg4)) g := by
  unfold addBias; blk_simp [iblk, idx t]; entry_read; pointwise; blk_point [idx t]
  by_cases hg : g.val < 512
  · rw [dif_pos hg, if_pos hg]
    refine congrArg (HAdd.hAdd _) ?_
    blk_ext [idx t]
  · rw [dif_neg hg, if_neg hg]

/-- The backward bias: the whole input bias, and the hidden bias added on the first 512 rows. -/
theorem blk_bb (g : Fin 768) : iblk m c 9 t (ix2 (0 : Fin 1) g) =
    addBias (m ((c : Thread nD τ).loc main_arg7)) (m ((c : Thread nD τ).loc main_arg8)) g := by
  unfold addBias; blk_simp [iblk, idx t]; entry_read; pointwise; blk_point [idx t]
  by_cases hg : g.val < 512
  · rw [dif_pos hg, if_pos hg]
    refine congrArg (HAdd.hAdd _) ?_
    blk_ext [idx t]
  · rw [dif_neg hg, if_neg hg]

/-- The lengths, at least one, the same along a row. -/
theorem blk_len (b : Fin 16) (u : Fin 256) :
    iblk m c 0 t (ix2 b u) = IntOp.maxsi (m ((c : Thread nD τ).loc main_arg11) (ix1 b)) 1#32 := by
  blk_simp [iblk, idx t]; entry_read; pointwise
  refine congrArg (fun n => IntOp.maxsi n 1#32) ?_
  blk_ext [idx t]

/-- The forward words at point `t`: row `16 k + b` is word `128 t + k` of sentence `b`. -/
theorem blk_xf (k : Fin 128) (b : Fin 16) (j : Fin 300) (h : 16 * k.val + b.val < 2048) (h' : 128 * t.val + k.val < 512) :
    iblk m c 1 t (ix2 (⟨16 * k.val + b.val, h⟩ : Fin 2048) j) = m ((c : Thread nD τ).loc main_arg0) (ix3 b (⟨128 * t.val + k.val, h'⟩ : Fin 512) j) := by
  blk_simp [iblk, idx t]; entry_read; pointwise; blk_ext [idx t]

/-- The backward words at point `t`: row `2032 - 16 k + b` is word `511 - (128 t + k)` of sentence `b`. -/
theorem blk_xb (k : Fin 128) (b : Fin 16) (j : Fin 300) (h : 2032 - 16 * k.val + b.val < 2048) (h' : 128 * t.val + k.val < 512) :
    iblk m c 2 t (ix2 (⟨2032 - 16 * k.val + b.val, h⟩ : Fin 2048) j) =
      m ((c : Thread nD τ).loc main_arg0) (ix3 b (Fin.rev (⟨128 * t.val + k.val, h'⟩ : Fin 512)) j) := by
  blk_simp [iblk, idx t]; entry_read; pointwise; blk_ext [idx t]
  rw [Fin.val_rev]
  show _ = 512 - (128 * t.val + k.val + 1)
  omega

end Cert.Gru.Ker
-- ==== Proof.KPoint.lean ====
module

public import proofs.«01_k».proof.Proof.Gen.KernelIdeal.Frame
public import proofs.«01_k».proof.Proof.KTrip

/-!
What one grid point leaves in the two hidden scratches, and in the output at the last point, in terms of the blocks it
was given and what the point before left.
-/

@[expose] public section

set_option maxRecDepth 16384

noncomputable section

namespace Cert.Gru.Ker

open Idealize.ShloMosaic Idealize.ShloMosaic.TcCoe Idealize.SL.Sem
open Cert.KernelIdeal Cert.KernelIdeal.Gen

/-- A load of a whole window that holds `X` is `X`. -/
theorem load_eq {S : Shape} {e : EltTy} (a : Memref sig .tc .vmem S e) (h : a.IsWhole) (off : Fin S.rank → ℕ)
    (inb : ∀ d, off d + S.size d ≤ S.size d) (X : S.Idx → Elt Ideal e) :
    View.readAt (Elt Ideal) a.view (Rect.unit off S.size inb).toLoadRect (h.unread X) = X :=
  (View.readAt_full a.view _ inb).trans (h.read_unread X)

/-- `load_eq` at a [16, 256] window. -/
theorem load_16x256 {e : EltTy} (a : Memref sig .tc .vmem S16x256 e) (h : a.IsWhole)
    (inb : ∀ d : Fin 2, (![0, 0] : Fin 2 → ℕ) d + (![16, 256] : Fin 2 → ℕ) d ≤ S16x256.size d) (X : S16x256.Idx → Elt Ideal e) :
    View.readAt (Elt Ideal) a.view (Rect.unit (s := S16x256) ![0, 0] ![16, 256] inb).toLoadRect (h.unread X) = X :=
  load_eq a h ![0, 0] inb X

/-- `load_eq` at a [2048, 300] window. -/
theorem load_2048x300 {e : EltTy} (a : Memref sig .tc .vmem S2048x300 e) (h : a.IsWhole)
    (inb : ∀ d : Fin 2, (![0, 0] : Fin 2 → ℕ) d + (![2048, 300] : Fin 2 → ℕ) d ≤ S2048x300.size d) (X : S2048x300.Idx → Elt Ideal e) :
    View.readAt (Elt Ideal) a.view (Rect.unit (s := S2048x300) ![0, 0] ![2048, 300] inb).toLoadRect (h.unread X) = X :=
  load_eq a h ![0, 0] inb X

/-- `load_eq` at a [300, 768] window. -/
theorem load_300x768 {e : EltTy} (a : Memref sig .tc .vmem S300x768 e) (h : a.IsWhole)
    (inb : ∀ d : Fin 2, (![0, 0] : Fin 2 → ℕ) d + (![300, 768] : Fin 2 → ℕ) d ≤ S300x768.size d) (X : S300x768.Idx → Elt Ideal e) :
    View.readAt (Elt Ideal) a.view (Rect.unit (s := S300x768) ![0, 0] ![300, 768] inb).toLoadRect (h.unread X) = X :=
  load_eq a h ![0, 0] inb X

/-- `load_eq` at a [256, 768] window. -/
theorem load_256x768 {e : EltTy} (a : Memref sig .tc .vmem S256x768 e) (h : a.IsWhole)
    (inb : ∀ d : Fin 2, (![0, 0] : Fin 2 → ℕ) d + (![256, 768] : Fin 2 → ℕ) d ≤ S256x768.size d) (X : S256x768.Idx → Elt Ideal e) :
    View.readAt (Elt Ideal) a.view (Rect.unit (s := S256x768) ![0, 0] ![256, 768] inb).toLoadRect (h.unread X) = X :=
  load_eq a h ![0, 0] inb X

/-- `load_eq` at a [1, 768] window. -/
theorem load_1x768 {e : EltTy} (a : Memref sig .tc .vmem S1x768 e) (h : a.IsWhole)
    (inb : ∀ d : Fin 2, (![0, 0] : Fin 2 → ℕ) d + (![1, 768] : Fin 2 → ℕ) d ≤ S1x768.size d) (X : S1x768.Idx → Elt Ideal e) :
    View.readAt (Elt Ideal) a.view (Rect.unit (s := S1x768) ![0, 0] ![1, 768] inb).toLoadRect (h.unread X) = X :=
  load_eq a h ![0, 0] inb X

/-- `load_eq` at a [1, 256] window. -/
theorem load_1x256 {e : EltTy} (a : Memref sig .tc .vmem S1x256 e) (h : a.IsWhole)
    (inb : ∀ d : Fin 2, (![0, 0] : Fin 2 → ℕ) d + (![1, 256] : Fin 2 → ℕ) d ≤ S1x256.size d) (X : S1x256.Idx → Elt Ideal e) :
    View.readAt (Elt Ideal) a.view (Rect.unit (s := S1x256) ![0, 0] ![1, 256] inb).toLoadRect (h.unread X) = X :=
  load_eq a h ![0, 0] inb X

/-- `load_eq` at a [1, 512] window. -/
theorem load_1x512 {e : EltTy} (a : Memref sig .tc .vmem S1x512 e) (h : a.IsWhole)
    (inb : ∀ d : Fin 2, (![0, 0] : Fin 2 → ℕ) d + (![1, 512] : Fin 2 → ℕ) d ≤ S1x512.size d) (X : S1x512.Idx → Elt Ideal e) :
    View.readAt (Elt Ideal) a.view (Rect.unit (s := S1x512) ![0, 0] ![1, 512] inb).toLoadRect (h.unread X) = X :=
  load_eq a h ![0, 0] inb X

/-- A load of a whole window just stored is what was stored. -/
theorem reload_eq {S : Shape} {e : EltTy} (v : View sig .tc .vmem S e) (off : Fin S.rank → ℕ)
    (inb inb' : ∀ d, off d + S.size d ≤ S.size d) (w : S.Idx → Elt Ideal e) (L : List (View.Piece (Elt Ideal) S e)) :
    v.readCov (⟨Rect.unit off S.size inb', w⟩ :: L) (Rect.unit off S.size inb).toLoadRect = w :=
  View.readCov_full v inb inb' w L

/-- `reload_eq` at a [16, 256] window. -/
theorem reload_16x256 (v : View sig .tc .vmem S16x256 .f32)
    (inb inb' : ∀ d : Fin 2, (![0, 0] : Fin 2 → ℕ) d + (![16, 256] : Fin 2 → ℕ) d ≤ S16x256.size d)
    (w : S16x256.Idx → Elt Ideal .f32) (L : List (View.Piece (Elt Ideal) S16x256 .f32)) :
    v.readCov (⟨Rect.unit (s := S16x256) ![0, 0] ![16, 256] inb', w⟩ :: L) (Rect.unit (s := S16x256) ![0, 0] ![16, 256] inb).toLoadRect = w :=
  reload_eq v ![0, 0] inb inb' w L

/-- The casts of a [16, 256] array to its own shape. -/
theorem same_5 (v : FVec Ideal S16x256 .f32) : k0_pay5 v = v := shapeCast_self v _

/-- The casts of a [16, 256] array to its own shape. -/
theorem same_6 (v : FVec Ideal S16x256 .f32) : k0_pay6 v = v := shapeCast_self v _

/-- The cast of the lengths to their own shape. -/
theorem same_19 (v : IVec S16x256 32) : k0_pay19 (F := Ideal) v = v := shapeCast_self v _

variable (c : Dev nD) (i : grid0.Coords)
  (arg1 : Memref sig .tc .vmem S16x256 .i32) (harg1 : arg1.IsWhole)
  (arg2 : Memref sig .tc .vmem S2048x300 .bf16) (harg2 : arg2.IsWhole)
  (arg3 : Memref sig .tc .vmem S2048x300 .bf16) (harg3 : arg3.IsWhole)
  (arg4 : Memref sig .tc .vmem S300x768 .bf16) (harg4 : arg4.IsWhole)
  (arg5 : Memref sig .tc .vmem S256x768 .bf16) (harg5 : arg5.IsWhole)
  (arg6 : Memref sig .tc .vmem S1x768 .f32) (harg6 : arg6.IsWhole)
  (arg7 : Memref sig .tc .vmem S1x256 .f32) (harg7 : arg7.IsWhole)
  (arg8 : Memref sig .tc .vmem S300x768 .bf16) (harg8 : arg8.IsWhole)
  (arg9 : Memref sig .tc .vmem S256x768 .bf16) (harg9 : arg9.IsWhole)
  (arg10 : Memref sig .tc .vmem S1x768 .f32) (harg10 : arg10.IsWhole)
  (arg11 : Memref sig .tc .vmem S1x256 .f32) (harg11 : arg11.IsWhole)
  (arg12 : Memref sig .tc .vmem S1x512 .f32) (harg12 : arg12.IsWhole)
  (arg13 : Memref sig .tc .vmem S1x512 .f32) (harg13 : arg13.IsWhole)
  (arg14 : Memref sig .tc .vmem S16x512 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S2048x768 .bf16) (harg17 : arg17.IsWhole)
  (arg18 : Memref sig .tc .vmem S2048x768 .bf16) (harg18 : arg18.IsWhole)
  (x0 : IVec S16x256 32) (x1 x2 : FVec Ideal S2048x300 .bf16) (x3 : FVec Ideal S300x768 .bf16) (x4 : FVec Ideal S256x768 .bf16)
  (x5 : FVec Ideal S1x768 .f32) (x6 : FVec Ideal S1x256 .f32) (x7 : FVec Ideal S300x768 .bf16) (x8 : FVec Ideal S256x768 .bf16)
  (x9 : FVec Ideal S1x768 .f32) (x10 : FVec Ideal S1x256 .f32) (x11 x12 : FVec Ideal S1x512 .f32)
  (xs0 xs1 : FVec Ideal S16x256 .f32)

/-- The loop's result at a point, from the point's blocks and the hidden arrays it starts from. -/
def loopEnd (init : FVec Ideal S16x256 .f32 × FVec Ideal S16x256 .f32) : FVec Ideal S16x256 .f32 × FVec Ideal S16x256 .f32 :=
  st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) x0 x4 x8 x6 x10
    (arg17.view.writes (Elt Ideal) arg17.view.junk [⟨Rect.unit ![0, 0] S2048x768.size inb_S2048x768_S2048x768_0_0, k0_pay17 (F := Ideal) x1 x3 x5⟩])
    (arg18.view.writes (Elt Ideal) arg18.view.junk [⟨Rect.unit ![0, 0] S2048x768.size inb_S2048x768_S2048x768_0_0, k0_pay18 (F := Ideal) x2 x7 x9⟩])
    init 128

/-- The forward scratch after a first point. -/
theorem sout_A_fwd (hc0 : cond0_0 i) (hc1 : ¬cond0_1 i) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 = (loopEnd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (k0_pay15, k0_pay16)).1 := by
  unfold sout0_A_0 kernelRun0_A
  refine (View.read_writes_full _ _ _ _ _).trans ?_
  unfold kernelRun0_A.sl.r kernelRun0_A.sl.r_1 kernelRun0_A.sl.HS2_1 kernelRun0_A.sl.HS3_1 kernelRun0_A.sl.v39 kernelRun0_A.sl.v40 kernelRun0_A.sl.HS0_1 kernelRun0_A.sl.HS1_1 loopEnd
  simp only [load_16x256, load_2048x300, load_300x768, load_256x768, load_1x768, load_1x256, load_1x512, same_5, same_6, same_19]
  exact congrArg Prod.fst (congrArg (loopEnd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10) (Prod.ext (reload_16x256 _ _ _ _ _) (reload_16x256 _ _ _ _ _)))

/-- The backward scratch after a first point. -/
theorem sout_A_bwd (hc0 : cond0_0 i) (hc1 : ¬cond0_1 i) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 = (loopEnd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (k0_pay15, k0_pay16)).2 := by
  unfold sout0_A_1 kernelRun0_A
  refine (View.read_writes_full _ _ _ _ _).trans ?_
  unfold kernelRun0_A.sl.r kernelRun0_A.sl.r_1 kernelRun0_A.sl.HS2_1 kernelRun0_A.sl.HS3_1 kernelRun0_A.sl.v39 kernelRun0_A.sl.v40 kernelRun0_A.sl.HS0_1 kernelRun0_A.sl.HS1_1 loopEnd
  simp only [load_16x256, load_2048x300, load_300x768, load_256x768, load_1x768, load_1x256, load_1x512, same_5, same_6, same_19]
  exact congrArg Prod.snd (congrArg (loopEnd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10) (Prod.ext (reload_16x256 _ _ _ _ _) (reload_16x256 _ _ _ _ _)))

/-- The forward scratch after a middle point. -/
theorem sout_B_fwd (hc0 : ¬cond0_0 i) (hc1 : ¬cond0_1 i) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 = (loopEnd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (xs0, xs1)).1 := by
  unfold sout0_B_0 kernelRun0_B
  refine (View.read_writes_full _ _ _ _ _).trans ?_
  unfold kernelRun0_B.sl.r kernelRun0_B.sl.r_1 kernelRun0_B.sl.HS2_1 kernelRun0_B.sl.HS3_1 loopEnd
  simp only [load_16x256, load_2048x300, load_300x768, load_256x768, load_1x768, load_1x256, load_1x512, same_5, same_6, same_19]
  rfl

/-- The backward scratch after a middle point. -/
theorem sout_B_bwd (hc0 : ¬cond0_0 i) (hc1 : ¬cond0_1 i) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 = (loopEnd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (xs0, xs1)).2 := by
  unfold sout0_B_1 kernelRun0_B
  refine (View.read_writes_full _ _ _ _ _).trans ?_
  unfold kernelRun0_B.sl.r kernelRun0_B.sl.r_1 kernelRun0_B.sl.HS2_1 kernelRun0_B.sl.HS3_1 loopEnd
  simp only [load_16x256, load_2048x300, load_300x768, load_256x768, load_1x768, load_1x256, load_1x512, same_5, same_6, same_19]
  rfl

/-- The forward scratch after a last point. -/
theorem sout_C_fwd (hc0 : ¬cond0_0 i) (hc1 : cond0_1 i) :
    sout0_C_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 = (loopEnd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (xs0, xs1)).1 := by
  unfold sout0_C_0 kernelRun0_C
  refine (View.read_writes_full _ _ _ _ _).trans ?_
  unfold kernelRun0_C.sl.r kernelRun0_C.sl.r_1 kernelRun0_C.sl.HS2_1 kernelRun0_C.sl.HS3_1 loopEnd
  simp only [load_16x256, load_2048x300, load_300x768, load_256x768, load_1x768, load_1x256, load_1x512, same_5, same_6, same_19]
  rfl

/-- The backward scratch after a last point. -/
theorem sout_C_bwd (hc0 : ¬cond0_0 i) (hc1 : cond0_1 i) :
    sout0_C_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 = (loopEnd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (xs0, xs1)).2 := by
  unfold sout0_C_1 kernelRun0_C
  refine (View.read_writes_full _ _ _ _ _).trans ?_
  unfold kernelRun0_C.sl.r kernelRun0_C.sl.r_1 kernelRun0_C.sl.HS2_1 kernelRun0_C.sl.HS3_1 loopEnd
  simp only [load_16x256, load_2048x300, load_300x768, load_256x768, load_1x768, load_1x256, load_1x512, same_5, same_6, same_19]
  rfl

/-- The output block after a last point. -/
theorem out_C (hc0 : ¬cond0_0 i) (hc1 : cond0_1 i) :
    out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 = k0_pay7 (F := Ideal) (loopEnd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (xs0, xs1)).1 (loopEnd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (xs0, xs1)).2 x11 x12 := by
  unfold out0_C_13 kernelRun0_C
  refine (View.read_writes_full _ _ _ _ _).trans ?_
  unfold kernelRun0_C.sl.r kernelRun0_C.sl.r_1 kernelRun0_C.sl.HS2_1 kernelRun0_C.sl.HS3_1 loopEnd
  simp only [load_16x256, load_2048x300, load_300x768, load_256x768, load_1x768, load_1x256, load_1x512, same_5, same_6, same_19]
  rfl

end Cert.Gru.Ker
-- ==== Proof.KStep.lean ====
module

public import proofs.«01_k».proof.Proof.KPoint

/-!
What the loop of one grid point computes, from what the point's blocks hold: the two hidden arrays move on by 128 steps.
-/

@[expose] public section

set_option maxRecDepth 16384

noncomputable section

namespace Cert.Gru.Ker

open Idealize.ShloMosaic Idealize.ShloMosaic.TcCoe Idealize.SL.Sem
open Cert.KernelIdeal Cert.KernelIdeal.Gen

/-- What the blocks of point `t` hold: the lengths `ℓ`, the weights of both directions, the input bias with the gates'
hidden bias folded in, the candidate's hidden bias, and the point's 128 words for each direction. -/
structure Blocks (t : ℕ) (ht : t < 4) (WF WB : Weights) (x : Fin 16 → Fin 512 → Fin 300 → EReal) (ℓ : Fin 16 → ℤ)
    (x0 : IVec S16x256 32) (x1 x2 : FVec Ideal S2048x300 .bf16) (x3 : FVec Ideal S300x768 .bf16) (x4 : FVec Ideal S256x768 .bf16)
    (x5 : FVec Ideal S1x768 .f32) (x6 : FVec Ideal S1x256 .f32) (x7 : FVec Ideal S300x768 .bf16) (x8 : FVec Ideal S256x768 .bf16)
    (x9 : FVec Ideal S1x768 .f32) (x10 : FVec Ideal S1x256 .f32) : Prop where
  len : ∀ b u, (x0 (ix2 b u)).toInt = ℓ b
  wif : ∀ j g, x3 (ix2 j g) = WF.wi g j
  wib : ∀ j g, x7 (ix2 j g) = WB.wi g j
  whf : ∀ v g, x4 (ix2 v g) = WF.wh g v
  whb : ∀ v g, x8 (ix2 v g) = WB.wh g v
  bf : ∀ g : Fin 768, x5 (ix2 (0 : Fin 1) g) = WF.bi g + (if g.val < 512 then WF.bh g else 0)
  bb : ∀ g : Fin 768, x9 (ix2 (0 : Fin 1) g) = WB.bi g + (if g.val < 512 then WB.bh g else 0)
  bnf : ∀ u, x6 (ix2 (0 : Fin 1) u) = WF.bh (rowN u)
  bnb : ∀ u, x10 (ix2 (0 : Fin 1) u) = WB.bh (rowN u)
  xf : ∀ (k : Fin 128) (b : Fin 16) (j : Fin 300), x1 (ix2 (⟨16 * k.val + b.val, by omega⟩ : Fin 2048) j) = x b ⟨128 * t + k.val, by omega⟩ j
  xb : ∀ (k : Fin 128) (b : Fin 16) (j : Fin 300),
    x2 (ix2 (⟨2032 - 16 * k.val + b.val, by omega⟩ : Fin 2048) j) = x b (Fin.rev ⟨128 * t + k.val, by omega⟩) j

/-- The gate inputs a point writes to its forward scratch: a row of words times the weights, and the folded bias. -/
theorem pay17_apply (x : FVec Ideal S2048x300 .bf16) (w : FVec Ideal S300x768 .bf16) (y : FVec Ideal S1x768 .f32) (r : Fin 2048) (g : Fin 768) :
    k0_pay17 (F := Ideal) x w y (ix2 r g) = (∑ j : Fin 300, x (ix2 r j) * w (ix2 j g)) + y (ix2 (0 : Fin 1) g) := by
  pointwise [k0_pay17]

/-- The gate inputs a point writes to its backward scratch. -/
theorem pay18_apply (x : FVec Ideal S2048x300 .bf16) (w : FVec Ideal S300x768 .bf16) (y : FVec Ideal S1x768 .f32) (r : Fin 2048) (g : Fin 768) :
    k0_pay18 (F := Ideal) x w y (ix2 r g) = (∑ j : Fin 300, x (ix2 r j) * w (ix2 j g)) + y (ix2 (0 : Fin 1) g) := by
  pointwise [k0_pay18]

/-- Gate inputs of that form, from a word and its direction's weights, are folded gate inputs. -/
theorem folded_of (W : Weights) (z : Fin 768 → EReal) (x : Fin 300 → EReal)
    (h : ∀ g : Fin 768, z g = (∑ j, x j * W.wi g j) + (W.bi g + (if g.val < 512 then W.bh g else 0))) : Folded W z x := by
  intro u
  refine ⟨?_, ?_, ?_⟩
  · rw [h, if_pos (show (rowR u).val < 512 by show u.val < 512; omega)]
  · rw [h, if_pos (show (rowZ u).val < 512 by show 256 + u.val < 512; omega)]
  · rw [h, if_neg (show ¬(rowN u).val < 512 by show ¬512 + u.val < 512; omega), add_zero]

variable (c : Dev nD) (i : grid0.Coords)
  (arg1 : Memref sig .tc .vmem S16x256 .i32) (harg1 : arg1.IsWhole)
  (arg2 : Memref sig .tc .vmem S2048x300 .bf16) (harg2 : arg2.IsWhole)
  (arg3 : Memref sig .tc .vmem S2048x300 .bf16) (harg3 : arg3.IsWhole)
  (arg4 : Memref sig .tc .vmem S300x768 .bf16) (harg4 : arg4.IsWhole)
  (arg5 : Memref sig .tc .vmem S256x768 .bf16) (harg5 : arg5.IsWhole)
  (arg6 : Memref sig .tc .vmem S1x768 .f32) (harg6 : arg6.IsWhole)
  (arg7 : Memref sig .tc .vmem S1x256 .f32) (harg7 : arg7.IsWhole)
  (arg8 : Memref sig .tc .vmem S300x768 .bf16) (harg8 : arg8.IsWhole)
  (arg9 : Memref sig .tc .vmem S256x768 .bf16) (harg9 : arg9.IsWhole)
  (arg10 : Memref sig .tc .vmem S1x768 .f32) (harg10 : arg10.IsWhole)
  (arg11 : Memref sig .tc .vmem S1x256 .f32) (harg11 : arg11.IsWhole)
  (arg12 : Memref sig .tc .vmem S1x512 .f32) (harg12 : arg12.IsWhole)
  (arg13 : Memref sig .tc .vmem S1x512 .f32) (harg13 : arg13.IsWhole)
  (arg14 : Memref sig .tc .vmem S16x512 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S2048x768 .bf16) (harg17 : arg17.IsWhole)
  (arg18 : Memref sig .tc .vmem S2048x768 .bf16) (harg18 : arg18.IsWhole)
/-- From the runs of `128 t` steps, the loop of point `t` makes the runs of `128 (t + 1)` steps. -/
theorem loopEnd_apply (t : ℕ) (ht : t < 4) (hi : (i 0).val = t) (WF WB : Weights) (x : Fin 16 → Fin 512 → Fin 300 → EReal) (ℓ : Fin 16 → ℤ)
    (x0 : IVec S16x256 32) (x1 x2 : FVec Ideal S2048x300 .bf16) (x3 : FVec Ideal S300x768 .bf16) (x4 : FVec Ideal S256x768 .bf16)
    (x5 : FVec Ideal S1x768 .f32) (x6 : FVec Ideal S1x256 .f32) (x7 : FVec Ideal S300x768 .bf16) (x8 : FVec Ideal S256x768 .bf16)
    (x9 : FVec Ideal S1x768 .f32) (x10 : FVec Ideal S1x256 .f32)
    (h : Blocks t ht WF WB x ℓ x0 x1 x2 x3 x4 x5 x6 x7 x8 x9 x10) (init : FVec Ideal S16x256 .f32 × FVec Ideal S16x256 .f32)
    (hF : ∀ b u, init.1 (ix2 b u) = fwd WF (x b) (ℓ b) (128 * t) u) (hB : ∀ b u, init.2 (ix2 b u) = bwd WB (x b) (ℓ b) (128 * t) u) :
    (∀ b u, (loopEnd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 init).1 (ix2 b u) = fwd WF (x b) (ℓ b) (128 * (t + 1)) u)
      ∧ ∀ b u, (loopEnd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 init).2 (ix2 b u) = bwd WB (x b) (ℓ b) (128 * (t + 1)) u := by
  have e := st_apply c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) x0 x4 x8 x6 x10
    (arg17.view.writes (Elt Ideal) arg17.view.junk [⟨Rect.unit ![0, 0] S2048x768.size inb_S2048x768_S2048x768_0_0, k0_pay17 (F := Ideal) x1 x3 x5⟩])
    (arg18.view.writes (Elt Ideal) arg18.view.junk [⟨Rect.unit ![0, 0] S2048x768.size inb_S2048x768_S2048x768_0_0, k0_pay18 (F := Ideal) x2 x7 x9⟩])
    t ht (by rw [hi]) WF WB x ℓ init h.len h.whf h.whb h.bnf h.bnb ?_ ?_ hF hB 128 le_rfl
  · exact e
  · intro k b
    refine folded_of WF _ _ fun g => ?_
    refine (congrFun (View.read_writes_full _ _ _ _ _) _).trans ((pay17_apply _ _ _ _ g).trans ?_)
    rw [h.bf]
    exact congrArg (· + _) (Finset.sum_congr rfl fun j _ => by rw [h.xf, h.wif])
  · intro k b
    refine folded_of WB _ _ fun g => ?_
    refine (congrFun (View.read_writes_full _ _ _ _ _) _).trans ((pay18_apply _ _ _ _ g).trans ?_)
    rw [h.bb]
    exact congrArg (· + _) (Finset.sum_congr rfl fun j _ => by rw [h.xb, h.wib])

end Cert.Gru.Ker
-- ==== Proof.Norm.lean ====
module

public import proofs.«01_k».proof.Proof.Spec
public import Idealize.ShloMosaic.Lib.IdealHost

/-!
The layer normalisation of one row, and why multiplying by the reciprocal of a square root is dividing by the square
root: the number under the root is a mean of squares plus a positive constant, so it is positive.
-/

@[expose] public section

noncomputable section

namespace Cert.Gru

open Idealize.ShloMosaic

/-- The mean of a row of 512. -/
def mean (h : Fin 512 → EReal) : EReal := Ideal.div (∑ u, h u) (Ideal.ofBits .f32 0x44000000#32)

/-- The mean of the squared distances from the mean. -/
def variance (h : Fin 512 → EReal) : EReal := mean fun v => (h v - mean h) * (h v - mean h)

/-- The normalised row: distance from the mean over the root of the variance plus a small constant, scaled and shifted. -/
def norm (h : Fin 512 → EReal) (g b : Fin 512 → EReal) (u : Fin 512) : EReal :=
  Ideal.div (h u - mean h) (Ideal.sqrt (variance h + Ideal.ofBits .f32 0x3727C5AC#32)) * g u + b u

/-- The row's length, as a number. -/
theorem ofBits_512 : Ideal.ofBits .f32 0x44000000#32 = ((512 : ℝ) : EReal) := by
  simp [Ideal.ofBits, Ideal.ieee, -EReal.coe_mul]; norm_num

/-- The small constant is a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

/-- A square is not negative. -/
theorem sq_nonneg (x : EReal) : 0 ≤ x * x := by
  rcases le_total 0 x with h | h
  · exact EReal.mul_nonneg h h
  · rw [← neg_mul_neg]
    exact EReal.mul_nonneg (EReal.neg_nonneg.2 h) (EReal.neg_nonneg.2 h)

/-- A variance is not negative. -/
theorem variance_nonneg (h : Fin 512 → EReal) : 0 ≤ variance h := by
  unfold variance mean
  rw [ofBits_512, Ideal.div, if_neg (by norm_num)]
  refine EReal.mul_nonneg (Finset.sum_nonneg fun v _ => sq_nonneg _) ?_
  exact EReal.inv_nonneg_of_nonneg (by norm_num)

/-- Times the reciprocal of the root is divided by the root, where the number under the root is positive. -/
theorem mul_rsqrt (x v : EReal) (hv : 0 < v) : x * Ideal.rsqrt v = Ideal.div x (Ideal.sqrt v) := by
  induction v with
  | bot => exact absurd hv (by simp)
  | top =>
    rw [show Ideal.rsqrt ⊤ = 0 from rfl, show Ideal.sqrt ⊤ = ⊤ from rfl, Ideal.div, if_neg EReal.top_ne_zero, EReal.inv_top]
  | coe r =>
    have hr : 0 < r := by exact_mod_cast hv
    have hs : Real.sqrt r ≠ 0 := (Real.sqrt_pos.2 hr).ne'
    have e1 : Ideal.rsqrt (r : EReal) = ((Real.sqrt r)⁻¹ : ℝ) := by
      show (if r < 0 then ⊥ else if r = 0 then ⊤ else (((Real.sqrt r)⁻¹ : ℝ) : EReal)) = _
      rw [if_neg hr.not_gt, if_neg hr.ne']
    have e2 : Ideal.sqrt (r : EReal) = (Real.sqrt r : ℝ) := by
      show (if r < 0 then ⊥ else ((Real.sqrt r : ℝ) : EReal)) = _
      rw [if_neg hr.not_gt]
    rw [e1, e2, Ideal.div, if_neg (by exact_mod_cast hs), EReal.coe_inv]

/-- The normalised row with the reciprocal root in place of the division. -/
theorem norm_rsqrt (h g b : Fin 512 → EReal) (u : Fin 512) :
    (h u - mean h) * Ideal.rsqrt (variance h + Ideal.ofBits .f32 0x3727C5AC#32) * g u + b u = norm h g b u := by
  unfold norm
  rw [mul_rsqrt]
  obtain ⟨e, he, h0⟩ := ofBits_eps
  rw [h0]
  exact lt_of_lt_of_le (EReal.coe_pos.2 he) (le_add_of_nonneg_left (variance_nonneg h))

/-- Two final hidden rows side by side. -/
def sides (a b : Fin 256 → EReal) (u : Fin 512) : EReal := if h : u.val < 256 then a ⟨u.val, h⟩ else b ⟨u.val - 256, by omega⟩

end Cert.Gru
-- ==== Proof.KNorm.lean ====
module

public import proofs.«01_k».proof.Proof.Gen.KernelIdeal.Frame
public import proofs.«01_k».proof.Proof.KTrip
public import proofs.«01_k».proof.Proof.Norm

/-!
What the last grid point stores: the layer norm of the two final hidden rows side by side.
-/

@[expose] public section

set_option maxRecDepth 16384

noncomputable section

namespace Cert.Gru.Ker

open Idealize.ShloMosaic Idealize.ShloMosaic.TcCoe Idealize.SL.Sem
open Cert.KernelIdeal Cert.KernelIdeal.Gen

/-- A sum over two rows side by side is the sum over the one and over the other. -/
theorem sum_sides (f : EReal → EReal) (a b : Fin 256 → EReal) :
    (∑ v, f (sides a b v)) = (∑ u, f (a u)) + ∑ u, f (b u) := by
  refine (Fin.sum_univ_add (a := 256) (b := 256) (fun v : Fin (256 + 256) => f (sides a b v))).trans ?_
  refine congrArg₂ (· + ·) (Finset.sum_congr rfl fun u _ => congrArg f ?_) (Finset.sum_congr rfl fun u _ => congrArg f ?_)
  · unfold sides
    rw [dif_pos (show (Fin.castAdd 256 u).val < 256 from u.isLt)]
    rfl
  · unfold sides
    rw [dif_neg (show ¬(Fin.natAdd 256 u).val < 256 by rw [Fin.val_natAdd]; omega)]
    exact congrArg b (Fin.ext (Nat.add_sub_cancel_left 256 u.val))

/-- The mean of two rows side by side. -/
theorem mean_sides (a b : Fin 256 → EReal) :
    mean (sides a b) = Ideal.div ((∑ u, a u) + ∑ u, b u) (Ideal.ofBits .f32 0x44000000#32) :=
  congrArg (Ideal.div · _) (sum_sides id a b)

/-- The variance of two rows side by side. -/
theorem variance_sides (a b : Fin 256 → EReal) :
    variance (sides a b) = Ideal.div ((∑ u, (a u - mean (sides a b)) * (a u - mean (sides a b)))
      + ∑ u, (b u - mean (sides a b)) * (b u - mean (sides a b))) (Ideal.ofBits .f32 0x44000000#32) :=
  congrArg (Ideal.div · _) (sum_sides (fun z => (z - mean (sides a b)) * (z - mean (sides a b))) a b)

/-- The stored block, at row `b` and column `v`. -/
theorem pay7_apply (hf hb : FVec Ideal S16x256 .f32) (g o : FVec Ideal S1x512 .f32) (b : Fin 16) (v : Fin 512) :
    k0_pay7 (F := Ideal) hf hb g o (ix2 b v) =
      norm (sides (fun u => hf (ix2 b u)) (fun u => hb (ix2 b u))) (fun v => g (ix2 (0 : Fin 1) v)) (fun v => o (ix2 (0 : Fin 1) v)) v := by
  refine Eq.trans ?_ (norm_rsqrt _ _ _ v)
  rw [variance_sides, mean_sides]
  pointwise [k0_pay7]
  rfl

end Cert.Gru.Ker
-- ==== Proof.KValue.lean ====
module

public import proofs.«01_k».proof.Proof.KHost
public import proofs.«01_k».proof.Proof.KStep
public import proofs.«01_k».proof.Proof.KNorm

/-!
What the kernel's result holds: the layer norm of the two final hidden rows, each the run of its direction over all 512
words.
-/

@[expose] public section

set_option maxRecDepth 16384

noncomputable section

namespace Cert.Gru.Ker

open Idealize.ShloMosaic Idealize.ShloMosaic.TcCoe Idealize.SL.Sem
open Cert.KernelIdeal Cert.KernelIdeal.Gen Cert.KernelIdeal.Value

variable (m : (ℓ : Loc nD τ sig) → Buf (Elt Ideal) ℓ) (c : Dev nD)

/-- The weights of the forward direction. -/
def wF : Weights where
  wi := fun g k => m ((c : Thread nD τ).loc main_arg1) (ix2 g k)
  wh := fun g k => m ((c : Thread nD τ).loc main_arg2) (ix2 g k)
  bi := fun g => m ((c : Thread nD τ).loc main_arg3) (ix1 g)
  bh := fun g => m ((c : Thread nD τ).loc main_arg4) (ix1 g)

/-- The weights of the backward direction. -/
def wB : Weights where
  wi := fun g k => m ((c : Thread nD τ).loc main_arg5) (ix2 g k)
  wh := fun g k => m ((c : Thread nD τ).loc main_arg6) (ix2 g k)
  bi := fun g => m ((c : Thread nD τ).loc main_arg7) (ix1 g)
  bh := fun g => m ((c : Thread nD τ).loc main_arg8) (ix1 g)

/-- The words of sentence `b`. -/
def words (b : Fin 16) : Fin 512 → Fin 300 → EReal := fun t j => m ((c : Thread nD τ).loc main_arg0) (ix3 b t j)

/-- The length of sentence `b`, at least one. -/
def len (b : Fin 16) : ℤ := (IntOp.maxsi (m ((c : Thread nD τ).loc main_arg11) (ix1 b)) 1#32 : BitVec 32).toInt

/-- The grid has four points. -/
theorem lt_four (t : Fin cfg0.N) : t.val < 4 := lt_of_lt_of_eq t.isLt N_0

/-- The grid's one coordinate at point `t` is `t`. -/
theorem coords_val : ∀ t : Fin cfg0.N, (grid0.coords t 0).val = t.val := by decide

/-- What the operand blocks hold at point `t`. -/
theorem blocks_at (t : Fin cfg0.N) : Blocks t.val (lt_four t) (wF m c) (wB m c) (words m c) (len m c) (iblk m c 0 t) (iblk m c 1 t) (iblk m c 2 t) (iblk m c 3 t) (iblk m c 4 t) (iblk m c 5 t) (iblk m c 6 t) (iblk m c 7 t) (iblk m c 8 t) (iblk m c 9 t) (iblk m c 10 t) where
  len := fun b u => congrArg BitVec.toInt (blk_len m c t b u)
  wif := blk_wif m c t
  wib := blk_wib m c t
  whf := blk_whf m c t
  whb := blk_whb m c t
  bf := blk_bf m c t
  bb := blk_bb m c t
  bnf := blk_bhf m c t
  bnb := blk_bhb m c t
  xf := fun k b j => blk_xf m c t k b j _ _
  xb := fun k b j => blk_xb m c t k b j _ _

/-- Both hidden arrays hold the runs of `n` steps. -/
def Ran (n : ℕ) (s : FVec Ideal S16x256 .f32 × FVec Ideal S16x256 .f32) : Prop :=
  (∀ b u, s.1 (ix2 b u) = fwd (wF m c) (words m c b) (len m c b) n u)
    ∧ ∀ b u, s.2 (ix2 b u) = bwd (wB m c) (words m c b) (len m c b) n u

/-- The loop of point `t`, at the point's memrefs and blocks. -/
def loopAt (t : Fin cfg0.N) (init : FVec Ideal S16x256 .f32 × FVec Ideal S16x256 .f32) : FVec Ideal S16x256 .f32 × FVec Ideal S16x256 .f32 :=
  loopEnd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) init

/-- The loop of point `t` moves both runs on by 128 steps. -/
theorem loopAt_ran (t : Fin cfg0.N) (init : FVec Ideal S16x256 .f32 × FVec Ideal S16x256 .f32) (h : Ran m c (128 * t.val) init) :
    Ran m c (128 * (t.val + 1)) (loopAt m c t init) :=
  loopEnd_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) t.val (lt_four t) (coords_val t) (wF m c) (wB m c) (words m c) (len m c)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks_at m c t) init h.1 h.2

/-- The hidden arrays start from zero. -/
theorem ran_zero : Ran m c 0 (k0_pay15 (F := Ideal), k0_pay16 (F := Ideal)) := by
  constructor
  · intro b u
    refine Eq.trans ?_ (show (0 : EReal) = _ from rfl)
    pointwise [k0_pay15]
  · intro b u
    refine Eq.trans ?_ (show (0 : EReal) = _ from rfl)
    pointwise [k0_pay16]

/-- The first point starts from zero. -/
theorem stAt0_first (t : Fin cfg0.N) (ht : t.val = 0) (acc : FVec Ideal S16x512 .f32 × FVec Ideal S16x256 .f32 × FVec Ideal S16x256 .f32) :
    (stAt0 m c t.val t.isLt acc).2 = loopAt m c t (k0_pay15 (F := Ideal), k0_pay16 (F := Ideal)) := by
  rw [stAt0_A m c t acc (by omega) (by omega)]
  refine Prod.ext ?_ ?_
  · dsimp only
    rw [sout_A_fwd]
    rfl
  · dsimp only
    rw [sout_A_bwd]
    rfl

/-- A later point starts from what the point before left. -/
theorem stAt0_later (t : Fin cfg0.N) (ht : t.val ≠ 0) (acc : FVec Ideal S16x512 .f32 × FVec Ideal S16x256 .f32 × FVec Ideal S16x256 .f32) :
    (stAt0 m c t.val t.isLt acc).2 = loopAt m c t acc.2 := by
  have h4 := lt_four t
  by_cases h3 : t.val % 4 = 3
  · rw [stAt0_C m c t acc (by omega) h3]
    refine Prod.ext ?_ ?_
    · dsimp only
      rw [sout_C_fwd]
      rfl
    · dsimp only
      rw [sout_C_bwd]
      rfl
  · rw [stAt0_B m c t acc (by omega) h3]
    refine Prod.ext ?_ ?_
    · dsimp only
      rw [sout_B_fwd]
      rfl
    · dsimp only
      rw [sout_B_bwd]
      rfl

/-- The last point stores the layer norm of the hidden arrays it ends with. -/
theorem stAt0_out (t : Fin cfg0.N) (ht : t.val = 3) (acc : FVec Ideal S16x512 .f32 × FVec Ideal S16x256 .f32 × FVec Ideal S16x256 .f32) :
    (stAt0 m c t.val t.isLt acc).1 = k0_pay7 (F := Ideal) (loopAt m c t acc.2).1 (loopAt m c t acc.2).2 (iblk m c 11 t) (iblk m c 12 t) := by
  rw [stAt0_C m c t acc (by omega) (by omega)]
  dsimp only
  rw [out_C]
  rfl

/-- What holds after the first point of a fold, and is handed on by every later one, holds after each. -/
theorem accAt_inv {N : ℕ} {α : Type} (a : (n : ℕ) → n < N → α) (g : (n : ℕ) → n < N → α → α) (P : ℕ → α → Prop)
    (h0 : ∀ h, P 0 (a 0 h)) (hs : ∀ n (h : n + 1 < N) s, P n s → P (n + 1) (g (n + 1) h s)) :
    ∀ n (hn : 0 + n < N), P n (Pipeline.accAt a g 0 n hn)
  | 0, hn => h0 hn
  | n + 1, hn => by
    have ih := accAt_inv a g P h0 hs n (Nat.lt_of_succ_lt hn)
    rw [Pipeline.accAt_succ]
    have key : ∀ k (h : k < N), k = n + 1 → P (n + 1) (g k h (Pipeline.accAt a g 0 n (Nat.lt_of_succ_lt hn))) := by
      intro k h e
      subst e
      exact hs n h _ ih
    exact key _ hn (Nat.zero_add _)

/-- After point `n` both hidden arrays hold the runs of `128 (n + 1)` steps. -/
theorem accAt_ran (n : ℕ) (hn : 0 + n < cfg0.N) :
    Ran m c (128 * (n + 1)) (Pipeline.accAt (fun n h => stAt0 m c n h junk0) (stAt0 m c) 0 n hn).2 := by
  refine accAt_inv (fun n h => stAt0 m c n h junk0) (stAt0 m c) (fun n s => Ran m c (128 * (n + 1)) s.2) ?_ ?_ n hn
  · intro h
    have hl := loopAt_ran m c ⟨0, h⟩ _ (ran_zero m c)
    rw [← stAt0_first m c ⟨0, h⟩ rfl (junk0 (F := Ideal))] at hl
    exact hl
  · intro n h s ih
    have hl := loopAt_ran m c ⟨n + 1, h⟩ _ ih
    rw [← stAt0_later m c ⟨n + 1, h⟩ (Nat.succ_ne_zero n) s] at hl
    exact hl

/-- A fold's fourth value is its step from the third. -/
theorem accAt_three {N : ℕ} {α : Type} (a : (n : ℕ) → n < N → α) (g : (n : ℕ) → n < N → α → α) (h3 : 3 < N) :
    Pipeline.accAt a g 0 3 (by omega) = g 3 h3 (Pipeline.accAt a g 0 2 (by omega)) := rfl

/-- The last point. -/
def last : Fin cfg0.N := ⟨3, lt_of_lt_of_eq (by decide) N_0.symm⟩

/-- What the last point finds. -/
def before : FVec Ideal S16x512 .f32 × FVec Ideal S16x256 .f32 × FVec Ideal S16x256 .f32 :=
  Pipeline.accAt (fun n h => stAt0 m c n h junk0) (stAt0 m c) 0 2 (lt_of_lt_of_eq (by decide) N_0.symm)

/-- The result is what the last point stores. -/
theorem result_last : G13 m c = (stAt0 m c 3 last.isLt (before m c)).1 :=
  (G13_last m c).trans (congrArg Prod.fst (accAt_three _ _ last.isLt))

/-- The hidden arrays the last point ends with hold the runs of all 512 steps. -/
theorem last_ran : Ran m c 512 (loopAt m c last (before m c).2) :=
  loopAt_ran m c last _ (accAt_ran m c 2 _)

/-- The layer norm of arrays that hold the runs of all 512 steps. -/
theorem norm_ran (s : FVec Ideal S16x256 .f32 × FVec Ideal S16x256 .f32) (h : Ran m c 512 s) (g o : FVec Ideal S1x512 .f32)
    (gw ow : Fin 512 → EReal) (hg : ∀ v, g (ix2 (0 : Fin 1) v) = gw v) (ho : ∀ v, o (ix2 (0 : Fin 1) v) = ow v) (b : Fin 16) (v : Fin 512) :
    k0_pay7 (F := Ideal) s.1 s.2 g o (ix2 b v) =
      norm (sides (fwd (wF m c) (words m c b) (len m c b) 512) (bwd (wB m c) (words m c b) (len m c b) 512)) gw ow v := by
  rw [pay7_apply, funext (h.1 b), funext (h.2 b), funext hg, funext ho]

/-- The kernel's result at row `b` and column `v`. -/
theorem result_apply (b : Fin 16) (v : Fin 512) :
    G13 m c (ix2 b v) = norm (sides (fwd (wF m c) (words m c b) (len m c b) 512) (bwd (wB m c) (words m c b) (len m c b) 512))
      (fun v => m ((c : Thread nD τ).loc main_arg9) (ix1 v)) (fun v => m ((c : Thread nD τ).loc main_arg10) (ix1 v)) v :=
  (congrFun ((result_last m c).trans (stAt0_out m c last rfl (before m c))) (ix2 b v)).trans
    (norm_ran m c _ (last_ran m c) (iblk m c 11 last) (iblk m c 12 last) _ _ (blk_g m c last) (blk_b m c last) b v)

end Cert.Gru.Ker
-- ==== Proof.RefSort.lean ====
module

public import proofs.«01_k».proof.Proof.Gen.ReferenceIdeal
public import Idealize.ShloMosaic.Lib.Pointwise
public import Idealize.ShloMosaic.Lib.SortFacts
public import proofs.«01_k».proof.Proof.Spec

/-!
The reference sorts the batch by length and undoes the sort at the end. Sorting gives a permutation of the sixteen
rows, and sorting that permutation gives its inverse; the three gathers read the rows those words name.
-/

@[expose] public section

set_option maxRecDepth 16384

noncomputable section

namespace Cert.Gru.Ref

open Idealize.ShloMosaic Idealize.ShloMosaic.TcCoe Idealize.SL.Sem
open Cert.ReferenceIdeal Cert.ReferenceIdeal.Gen

/-- The positions of the keys in ascending order, as the program computes them. -/
def order (K : IVec S16 32) : IVec S16 32 := (Host.sort2 S16 0 comparator_i32_i32_d0 K (iotaInDim S16 32 0)).2

/-- The permutation that sorts the keys. -/
def sortPerm (K : IVec S16 32) : Fin 16 → Fin 16 :=
  sortedFrom fun k k' : Fin 16 => comparator_i32_i32_d0 (K (ix1 k), BitVec.ofNat 32 k.val) (K (ix1 k'), BitVec.ofNat 32 k'.val) == 1#1

/-- The sorted positions are the words of a permutation's values. -/
theorem order_apply (K : IVec S16 32) (b : Fin 16) : order K (ix1 b) = BitVec.ofNat 32 (sortPerm K b).val := by
  have e : ∀ k : Fin 16, (Shape.Idx.along (s := S16) (ix1 b) 0 k) = ix1 k := fun k => by
    funext a; match a with | ⟨0, _⟩ => rfl
  unfold order Host.sort2
  rw [dif_pos (by decide)]
  show iotaInDim S16 32 0 (Shape.Idx.along (s := S16) (ix1 b) 0 (sortedFrom (n := 16) _ b)) = _
  rw [e]
  unfold sortPerm iotaInDim
  refine congrArg (fun f => BitVec.ofNat 32 (sortedFrom (n := 16) f b).val) ?_
  refine funext fun (k : Fin 16) => funext fun (k' : Fin 16) => ?_
  show (comparator_i32_i32_d0 (K (Shape.Idx.along (s := S16) (ix1 b) 0 k), iotaInDim S16 32 0 (Shape.Idx.along (s := S16) (ix1 b) 0 k))
    (K (Shape.Idx.along (s := S16) (ix1 b) 0 k'), iotaInDim S16 32 0 (Shape.Idx.along (s := S16) (ix1 b) 0 k')) == 1#1) = _
  rw [e, e]
  rfl

/-- Sorting moves no row onto another. -/
theorem sortPerm_injective (K : IVec S16 32) : Function.Injective (sortPerm K) := sortedFrom_injective _

/-- A word of a row number holds that number. -/
theorem toInt_row (b : Fin 16) : (BitVec.ofNat 32 b.val).toInt = b.val := toInt_ofNat b.val (by omega)

/-- The order of two words of row numbers is the order of the numbers. -/
theorem comparator_rows (p q : Fin 16) (v w : BitVec 32) :
    (comparator_i32_i32_d0 (BitVec.ofNat 32 p.val, v) (BitVec.ofNat 32 q.val, w) == 1#1) = decide (p < q) := by
  show (IntOp.cmpi .slt (BitVec.ofNat 32 p.val) (BitVec.ofNat 32 q.val) == 1#1) = _
  rw [WordCmp.cmpi_slt_eq, toInt_row, toInt_row]
  by_cases h : p < q
  · have h' : (p.val : ℤ) < q.val := by exact_mod_cast h
    rw [decide_eq_true h, decide_eq_true h']; rfl
  · have h' : ¬ (p.val : ℤ) < q.val := by exact_mod_cast h
    rw [decide_eq_false h, decide_eq_false h']; rfl

/-- Sorting the words of a permutation's values sorts the values. -/
theorem sortPerm_rows (K : IVec S16 32) (σ : Fin 16 → Fin 16) (hK : ∀ b, K (ix1 b) = BitVec.ofNat 32 (σ b).val) :
    sortPerm K = sortedFrom (fun k k' : Fin 16 => decide (σ k < σ k')) := by
  unfold sortPerm
  refine congrArg sortedFrom (funext fun k => funext fun k' => ?_)
  rw [hK, hK]
  exact comparator_rows _ _ _ _

/-- Sorting the words of a permutation gives its inverse. -/
theorem sortPerm_inverse (K : IVec S16 32) (σ : Fin 16 → Fin 16) (hσ : Function.Injective σ)
    (hK : ∀ b, K (ix1 b) = BitVec.ofNat 32 (σ b).val) (b : Fin 16) : σ (sortPerm K b) = b := by
  have hperm := sortPerm_rows K σ hK
  have hno : ∀ i j : Fin 16, i < j → decide (σ (sortPerm K j) < σ (sortPerm K i)) = false := by
    rw [hperm]
    exact sortedFrom_noInversion (fun k k' : Fin 16 => decide (σ k < σ k')) (fun k k' : Fin 16 => decide (σ k < σ k'))
      (fun a b h => decide_eq_false (not_lt.2 (of_decide_eq_true h).le)) (fun a b h => h)
      (fun a b d h h' => decide_eq_false (not_lt.2 (le_trans (not_lt.1 (of_decide_eq_false h')) (not_lt.1 (of_decide_eq_false h)))))
  have hmono : StrictMono (fun b => σ (sortPerm K b)) := fun i j hij =>
    lt_of_le_of_ne (not_lt.1 (of_decide_eq_false (hno i j hij))) fun h =>
      absurd (sortPerm_injective K (hσ h)) (ne_of_lt hij)
  have hsurj : Function.Surjective (fun b => σ (sortPerm K b)) := Finite.injective_iff_surjective.1 hmono.injective
  exact congrFun ((StrictMono.range_inj hmono strictMono_id).1 (by rw [hsurj.range_eq, Set.range_id])) b

/-- A word that holds a row number is its own wrapped index, and a gather of rows reads that row. -/
def wrapped (K : IVec S16 32) : IVec S16x1 32 :=
  broadcastInDim S16x1 ![0] bcast_S16_S16x1_0
    (select (cmpi .slt K (broadcastInDim S16 ![] bcast_S_S16 (constantI S_ 32 0#32)))
      (addi K (broadcastInDim S16 ![] bcast_S_S16 (constantI S_ 32 16#32))) K)

theorem wrapped_apply (K : IVec S16 32) (b r : Fin 16) (hK : K (ix1 b) = BitVec.ofNat 32 r.val) :
    wrapped K (ix2 b (0 : Fin 1)) = BitVec.ofNat 32 r.val := by
  pointwise [wrapped]
  rw [select_slt, hK, toInt_row, if_neg (by show ¬ ((r.val : ℤ) < 0); omega)]

/-- The gather of the words reads the row the index names. -/
theorem gather_words (x : FVec Ideal S16x512x300 .f32) (K : IVec S16 32) (b r : Fin 16)
    (hK : K (ix1 b) = BitVec.ofNat 32 r.val) (t : Fin 512) (j : Fin 300) :
    Host.gather gather_S16x512x300_S16x1_S16x512x300_12_0_n_n_0_1_1512300 x (wrapped K) (ix3 b t j) = x (ix3 r t j) := by
  have hw := wrapped_apply K b r hK
  have hs : gather_S16x512x300_S16x1_S16x512x300_12_0_n_n_0_1_1512300.siIdx (ix3 b t j) ⟨0, by decide⟩ = ix2 b (0 : Fin 1) := by
    funext a; match a with
    | ⟨0, _⟩ => rfl
    | ⟨1, _⟩ => rfl
  refine congrArg x (funext fun a => Fin.ext ?_)
  match a with
  | ⟨0, _⟩ =>
    show min (wrapped K (gather_S16x512x300_S16x1_S16x512x300_12_0_n_n_0_1_1512300.siIdx (ix3 b t j) ⟨0, _⟩)).toInt.toNat (16 - 1) + 0 + 0 = r.val
    rw [hs, hw, toInt_row]; have := r.isLt; omega
  | ⟨1, _⟩ => show 0 + 0 + t.val = t.val; omega
  | ⟨2, _⟩ => show 0 + 0 + j.val = j.val; omega

/-- The gather of the lengths reads the length of the row the index names. -/
theorem gather_lens (x : IVec S16 32) (K : IVec S16 32) (b r : Fin 16) (hK : K (ix1 b) = BitVec.ofNat 32 r.val) :
    Host.gather gather_S16_S16x1_S16_n_0_n_n_0_1_1 x (wrapped K) (ix1 b) = x (ix1 r) := by
  have hw := wrapped_apply K b r hK
  have hs : gather_S16_S16x1_S16_n_0_n_n_0_1_1.siIdx (ix1 b) ⟨0, by decide⟩ = ix2 b (0 : Fin 1) := by
    funext a; match a with
    | ⟨0, _⟩ => rfl
    | ⟨1, _⟩ => rfl
  refine congrArg x (funext fun a => Fin.ext ?_)
  match a with
  | ⟨0, _⟩ =>
    show min (wrapped K (gather_S16_S16x1_S16_n_0_n_n_0_1_1.siIdx (ix1 b) ⟨0, _⟩)).toInt.toNat (16 - 1) + 0 + 0 = r.val
    rw [hs, hw, toInt_row]; have := r.isLt; omega

/-- The gather of the final states reads the state of the row the index names. -/
theorem gather_hid (x : FVec Ideal S16x512 .f32) (K : IVec S16 32) (b r : Fin 16)
    (hK : K (ix1 b) = BitVec.ofNat 32 r.val) (u : Fin 512) :
    Host.gather gather_S16x512_S16x1_S16x512_1_0_n_n_0_1_1512 x (wrapped K) (ix2 b u) = x (ix2 r u) := by
  have hw := wrapped_apply K b r hK
  have hs : gather_S16x512_S16x1_S16x512_1_0_n_n_0_1_1512.siIdx (ix2 b u) ⟨0, by decide⟩ = ix2 b (0 : Fin 1) := by
    funext a; match a with
    | ⟨0, _⟩ => rfl
    | ⟨1, _⟩ => rfl
  refine congrArg x (funext fun a => Fin.ext ?_)
  match a with
  | ⟨0, _⟩ =>
    show min (wrapped K (gather_S16x512_S16x1_S16x512_1_0_n_n_0_1_1512.siIdx (ix2 b u) ⟨0, _⟩)).toInt.toNat (16 - 1) + 0 + 0 = r.val
    rw [hs, hw, toInt_row]; have := r.isLt; omega
  | ⟨1, _⟩ => show 0 + 0 + u.val = u.val; omega

end Cert.Gru.Ref
-- ==== Proof.RefEntry.lean ====
module

public import proofs.«01_k».proof.Proof.RefKeep
public import proofs.«01_k».proof.Proof.RefSort

/-!
What the reference's loop starts from: the words and lengths of the sorted batch, the times, the same in reverse, the
weights, and two zero hidden arrays.
-/

@[expose] public section

set_option maxRecDepth 16384

noncomputable section

namespace Cert.Gru.Ref

open Idealize.ShloMosaic Idealize.ShloMosaic.TcCoe Idealize.SL.Sem
open Idealize.ShloMosaic.StableHlo
open Cert.ReferenceIdeal Cert.ReferenceIdeal.Gen Cert.ReferenceIdeal.Value

/-- The words of the sorted batch, time first. -/
def sortedWords (x : FVec Ideal S16x512x300 .f32) (L : IVec S16 32) : FVec Ideal S512x16x300 .f32 :=
  transpose S512x16x300 [1, 0, 2]
    (Host.gather gather_S16x512x300_S16x1_S16x512x300_12_0_n_n_0_1_1512300 x (wrapped (order (negi L))))
    transposes_S16x512x300_S512x16x300_1_0_2

/-- The lengths of the sorted batch before zero is replaced. -/
def sortedLens0 (L : IVec S16 32) : IVec S16 32 :=
  Host.gather gather_S16_S16x1_S16_n_0_n_n_0_1_1 L (wrapped (order (negi L)))

/-- The lengths of the sorted batch, a zero length counting as one. -/
def sortedLens (L : IVec S16 32) : IVec S16 32 :=
  select (cmpi .eq (sortedLens0 L) (broadcastInDim S16 ![] bcast_S_S16 (constantI S_ 32 0#32)))
    (broadcastInDim S16 ![] bcast_S_S16 (constantI S_ 32 1#32)) (sortedLens0 L)

variable (m : (ℓ : Loc nD τ sig) → Buf (Elt Ideal) ℓ)

/-- The forward words at the loop's entry. -/
theorem entry_0 (c : Dev nD) : entryContents preI m c (Proc.devRef .tc main_v25_0)
    = sortedWords (m ((c.tc : Thread nD τ).loc main_arg0)) (m ((c.tc : Thread nD τ).loc main_arg11)) := by
  simp only [entryContents, afterL_cons, afterL_nil]
  after_reads_simp
  rfl

/-- The forward times. -/
theorem entry_1 (c : Dev nD) : entryContents preI m c (Proc.devRef .tc main_v25_1) = iotaInDim S512 32 0 := by
  simp only [entryContents, afterL_cons, afterL_nil]
  after_reads_simp
  rfl

/-- The backward words. -/
theorem entry_2 (c : Dev nD) : entryContents preI m c (Proc.devRef .tc main_v25_2)
    = Host.reverse [0] (sortedWords (m ((c.tc : Thread nD τ).loc main_arg0)) (m ((c.tc : Thread nD τ).loc main_arg11))) := by
  simp only [entryContents, afterL_cons, afterL_nil]
  after_reads_simp
  rfl

/-- The backward times. -/
theorem entry_3 (c : Dev nD) : entryContents preI m c (Proc.devRef .tc main_v25_3)
    = (Host.reverse [0] (iotaInDim S512 32 0) : IVec S512 32) := by
  simp only [entryContents, afterL_cons, afterL_nil]
  after_reads_simp
  rfl

/-- The lengths. -/
theorem entry_4 (c : Dev nD) : entryContents preI m c (Proc.devRef .tc main_v25_4)
    = sortedLens (m ((c.tc : Thread nD τ).loc main_arg11)) := by
  simp only [entryContents, afterL_cons, afterL_nil]
  after_reads_simp
  rfl

/-- The forward input weights. -/
theorem entry_5 (c : Dev nD) : entryContents preI m c (Proc.devRef .tc main_v25_5) = m ((c.tc : Thread nD τ).loc main_arg1) := by
  simp only [entryContents, afterL_cons, afterL_nil]
  after_reads_simp
  rfl

/-- The forward input bias. -/
theorem entry_6 (c : Dev nD) : entryContents preI m c (Proc.devRef .tc main_v25_6) = m ((c.tc : Thread nD τ).loc main_arg3) := by
  simp only [entryContents, afterL_cons, afterL_nil]
  after_reads_simp
  rfl

/-- The forward recurrent weights. -/
theorem entry_7 (c : Dev nD) : entryContents preI m c (Proc.devRef .tc main_v25_7) = m ((c.tc : Thread nD τ).loc main_arg2) := by
  simp only [entryContents, afterL_cons, afterL_nil]
  after_reads_simp
  rfl

/-- The forward recurrent bias. -/
theorem entry_8 (c : Dev nD) : entryContents preI m c (Proc.devRef .tc main_v25_8) = m ((c.tc : Thread nD τ).loc main_arg4) := by
  simp only [entryContents, afterL_cons, afterL_nil]
  after_reads_simp
  rfl

/-- The backward input weights. -/
theorem entry_9 (c : Dev nD) : entryContents preI m c (Proc.devRef .tc main_v25_9) = m ((c.tc : Thread nD τ).loc main_arg5) := by
  simp only [entryContents, afterL_cons, afterL_nil]
  after_reads_simp
  rfl

/-- The backward input bias. -/
theorem entry_10 (c : Dev nD) : entryContents preI m c (Proc.devRef .tc main_v25_10) = m ((c.tc : Thread nD τ).loc main_arg7) := by
  simp only [entryContents, afterL_cons, afterL_nil]
  after_reads_simp
  rfl

/-- The backward recurrent weights. -/
theorem entry_11 (c : Dev nD) : entryContents preI m c (Proc.devRef .tc main_v25_11) = m ((c.tc : Thread nD τ).loc main_arg6) := by
  simp only [entryContents, afterL_cons, afterL_nil]
  after_reads_simp
  rfl

/-- The backward recurrent bias. -/
theorem entry_12 (c : Dev nD) : entryContents preI m c (Proc.devRef .tc main_v25_12) = m ((c.tc : Thread nD τ).loc main_arg8) := by
  simp only [entryContents, afterL_cons, afterL_nil]
  after_reads_simp
  rfl

/-- The hidden rows start at zero. -/
theorem entry_14 (c : Dev nD) : entryContents preI m c (Proc.devRef .tc main_v25_14)
    = broadcastInDim S16x256 ![] bcast_S_S16x256 (constant (F := Ideal) S_ .f32 0#32) := by
  simp only [entryContents, afterL_cons, afterL_nil]
  after_reads_simp
  rfl

/-- The backward hidden rows start at zero. -/
theorem entry_15 (c : Dev nD) : entryContents preI m c (Proc.devRef .tc main_v25_15)
    = broadcastInDim S16x256 ![] bcast_S_S16x256 (constant (F := Ideal) S_ .f32 0#32) := by
  simp only [entryContents, afterL_cons, afterL_nil]
  after_reads_simp
  rfl

/-- The positions that undo the sort. -/
theorem entry_order (c : Dev nD) : entryContents preI m c (Proc.devRef .tc main_v2)
    = order (order (negi (m ((c.tc : Thread nD τ).loc main_arg11)))) := by
  simp only [entryContents, afterL_cons, afterL_nil]
  after_reads_simp
  rfl

/-- Word `k` of row `b` of the sorted batch is word `k` of the row the sort put there. -/
theorem word_k (x : FVec Ideal S16x512x300 .f32) (L : IVec S16 32) (k : Fin 512) (b : Fin 16) (j : Fin 300) :
    sortedWords x L (ix3 k b j) = x (ix3 (sortPerm (negi L) b) k j) := by
  have h := gather_words x (order (negi L)) b (sortPerm (negi L) b) (order_apply _ b) k j
  pointwise [sortedWords]
  exact h

/-- The length of row `b` of the sorted batch: that of the row the sort put there, a zero counting as one. -/
theorem len_b (L : IVec S16 32) (b : Fin 16) :
    sortedLens L (ix1 b) = if L (ix1 (sortPerm (negi L) b)) = 0#32 then 1#32 else L (ix1 (sortPerm (negi L) b)) := by
  have h := gather_lens L (order (negi L)) b (sortPerm (negi L) b) (order_apply _ b)
  pointwise [sortedLens]
  rw [show sortedLens0 L (ix1 b) = _ from h]
  unfold Scalar.select
  by_cases e : L (ix1 (sortPerm (negi L) b)) = 0#32
  · rw [e]; rfl
  · rw [if_neg e, if_neg]
    show ¬ BitVec.ofBool (L (ix1 (sortPerm (negi L) b)) == 0#32) = 1#1
    rw [beq_false_of_ne e]; decide

/-- The reversed words. -/
theorem rev_word (X : FVec Ideal S512x16x300 .f32) (k : Fin 512) (b : Fin 16) (j : Fin 300) :
    Host.reverse [0] X (ix3 k b j) = X (ix3 k.rev b j) := by
  pointwise
  rfl

/-- The reversed times. -/
theorem rev_time (k : Fin 512) :
    (Host.reverse [0] (iotaInDim S512 32 0) : IVec S512 32) (ix1 k) = BitVec.ofNat 32 (511 - k.val) := by
  pointwise
  refine congrArg (BitVec.ofNat 32) ((show _ = k.rev.val from rfl).trans ?_)
  rw [Fin.val_rev]
  omega

end Cert.Gru.Ref
-- ==== Proof.RefStep.lean ====
module

public import proofs.«01_k».proof.Proof.Gen.ReferenceIdeal
public import proofs.«01_k».proof.Proof.Gen.ReferenceIdeal.Run
public import proofs.«01_k».proof.Proof.Spec
public import Idealize.ShloMosaic.Lib.Pointwise

/-!
One trip of the reference's loop, read row by row: each direction's hidden row steps by the cell where the trip's
time lies below the row's length and stays as it was elsewhere.
-/

@[expose] public section

set_option maxRecDepth 16384

noncomputable section

namespace Cert.Gru.Ref

open Idealize.ShloMosaic Idealize.ShloMosaic.TcCoe Idealize.SL.Sem
open Idealize.ShloMosaic.StableHlo
open Cert.ReferenceIdeal Cert.ReferenceIdeal.Gen Cert.ReferenceIdeal.Value

/-- The input part of all gates of one trip: word block `i` of `X` times the weights, plus the bias. -/
def inPart (X : FVec Ideal S512x16x300 .f32) (Wi : FVec Ideal S768x300 .f32) (bi : FVec Ideal S768 .f32)
    (i : IVec S_ 32) : FVec Ideal S16x768 .f32 :=
  addf (Host.dotGeneral dot_S16x300_S300x768_S16x768_1_0_0_1_n_n none (shapeCast S16x300 (Host.dynamicSlice S1x16x300 X (fun k => (((![i, constantI S_ 32 0#32, constantI S_ 32 0#32] : Fin 3 → (⟨S_, .i32⟩ : BufTy).Contents (Elt Ideal))) k (Shape.Idx.first h_S_)).toInt) sliceFits_S512x16x300_S1x16x300) shapeCasts_S1x16x300_S16x300) (transpose S300x768 [1, 0] Wi transposes_S768x300_S300x768_1_0)) (broadcastInDim S16x768 ![0, 1] bcast_S1x768_S16x768_0_1 (broadcastInDim S1x768 ![1] bcast_S768_S1x768_1 bi))

/-- The hidden part of all gates of one trip. -/
def hidPart (H : FVec Ideal S16x256 .f32) (Wh : FVec Ideal S768x256 .f32) (bh : FVec Ideal S768 .f32) :
    FVec Ideal S16x768 .f32 :=
  addf (Host.dotGeneral dot_S16x256_S256x768_S16x768_1_0_0_1_n_n none H (transpose S256x768 [1, 0] Wh transposes_S768x256_S256x768_1_0)) (broadcastInDim S16x768 ![0, 1] bcast_S1x768_S16x768_0_1 (broadcastInDim S1x768 ![1] bcast_S768_S1x768_1 bh))

/-- The update gate of one trip. -/
def zGate (G K : FVec Ideal S16x768 .f32) : FVec Ideal S16x256 .f32 :=
  Host.divf (broadcastInDim S16x256 ![] bcast_S_S16x256 (constant S_ .f32 0x3F800000#32)) (addf (broadcastInDim S16x256 ![] bcast_S_S16x256 (constant S_ .f32 0x3F800000#32)) (Host.exp (Host.negf (addf (extractStridedSlice S16x256 ![0, 256] G slices_S16x768_S16x256_0_256) (extractStridedSlice S16x256 ![0, 256] K slices_S16x768_S16x256_0_256)))))

/-- One trip of one direction, as the program computes it from the two gate parts. -/
def newHid (T : IVec S512 32) (L : IVec S16 32) (i : IVec S_ 32) (G K : FVec Ideal S16x768 .f32)
    (H : FVec Ideal S16x256 .f32) : FVec Ideal S16x256 .f32 :=
  select (broadcastInDim S16x256 ![0, 1] bcast_S16x1_S16x256_0_1 (broadcastInDim S16x1 ![0] bcast_S16_S16x1_0 (cmpi .slt (broadcastInDim S16 ![] bcast_S_S16 (shapeCast S_ (Host.dynamicSlice S1 T (fun k => (((![i] : Fin 1 → (⟨S_, .i32⟩ : BufTy).Contents (Elt Ideal))) k (Shape.Idx.first h_S_)).toInt) sliceFits_S512_S1) shapeCasts_S1_S_)) L))) (addf (mulf (subf (broadcastInDim S16x256 ![] bcast_S_S16x256 (constant S_ .f32 0x3F800000#32)) (zGate G K)) (Host.tanh (addf (extractStridedSlice S16x256 ![0, 512] G slices_S16x768_S16x256_0_512) (mulf (Host.divf (broadcastInDim S16x256 ![] bcast_S_S16x256 (constant S_ .f32 0x3F800000#32)) (addf (broadcastInDim S16x256 ![] bcast_S_S16x256 (constant S_ .f32 0x3F800000#32)) (Host.exp (Host.negf (addf (extractStridedSlice S16x256 ![0, 0] G slices_S16x768_S16x256_0_0) (extractStridedSlice S16x256 ![0, 0] K slices_S16x768_S16x256_0_0)))))) (extractStridedSlice S16x256 ![0, 512] K slices_S16x768_S16x256_0_512))))) (mulf (zGate G K) H)) H

/-- The forward half of a trip is `newHid` of the forward buffers. -/
theorem step_fwd (V : Valuation τ sig (Elt Ideal)) :
    step_main_v25_14 V = newHid (V (Proc.devRef .tc main_v25_1)) (V (Proc.devRef .tc main_v25_4)) (V (Proc.devRef .tc main_v25_13))
      (inPart (V (Proc.devRef .tc main_v25_0)) (V (Proc.devRef .tc main_v25_5)) (V (Proc.devRef .tc main_v25_6)) (V (Proc.devRef .tc main_v25_13)))
      (hidPart (V (Proc.devRef .tc main_v25_14)) (V (Proc.devRef .tc main_v25_7)) (V (Proc.devRef .tc main_v25_8)))
      (V (Proc.devRef .tc main_v25_14)) := rfl

/-- The backward half of a trip is `newHid` of the backward buffers. -/
theorem step_bwd (V : Valuation τ sig (Elt Ideal)) :
    step_main_v25_15 V = newHid (V (Proc.devRef .tc main_v25_3)) (V (Proc.devRef .tc main_v25_4)) (V (Proc.devRef .tc main_v25_13))
      (inPart (V (Proc.devRef .tc main_v25_2)) (V (Proc.devRef .tc main_v25_9)) (V (Proc.devRef .tc main_v25_10)) (V (Proc.devRef .tc main_v25_13)))
      (hidPart (V (Proc.devRef .tc main_v25_15)) (V (Proc.devRef .tc main_v25_11)) (V (Proc.devRef .tc main_v25_12)))
      (V (Proc.devRef .tc main_v25_15)) := rfl

/-- The weights of one direction as functions of their indices. -/
def weights (Wi : FVec Ideal S768x300 .f32) (Wh : FVec Ideal S768x256 .f32) (bi bh : FVec Ideal S768 .f32) : Weights where
  wi := fun g k => Wi (ix2 g k)
  wh := fun g k => Wh (ix2 g k)
  bi := fun g => bi (ix1 g)
  bh := fun g => bh (ix1 g)

/-- The input part at row `b`, gate row `g`, in trip `k`: the product of the word and the weight row, and the bias. -/
theorem inPart_apply (X : FVec Ideal S512x16x300 .f32) (Wi : FVec Ideal S768x300 .f32) (bi : FVec Ideal S768 .f32)
    (k : Fin 512) (b : Fin 16) (g : Fin 768) :
    inPart X Wi bi (fun _ => BitVec.ofNat 32 k.val) (ix2 b g)
      = lin (fun g j => Wi (ix2 g j)) (fun g => bi (ix1 g)) (fun j => X (ix3 k b j)) g := by
  have hk := toInt_ofNat k.val k.isLt
  have h0 : (0#32 : BitVec 32).toInt = 0 := rfl
  have hlt := k.isLt
  pointwise [inPart, lin]
  refine congrArg (· + bi (ix1 g)) (Finset.sum_congr rfl fun j _ => congrArg (· * Wi (ix2 g j)) (congrArg X ?_))
  have e0 : Host.clampedStart S512x16x300 S1x16x300 rfl (fun a => BitVec.toInt
      (![fun _ => BitVec.ofNat 32 k.val, constantI S_ 32 0#32, constantI S_ 32 0#32] a (Shape.Idx.first h_S_))) 0 = k.val :=
    (Host.clampedStart_of_le _ _ _ _ hk (by show k.val + 1 ≤ 512; omega))
  have e1 : Host.clampedStart S512x16x300 S1x16x300 rfl (fun a => BitVec.toInt
      (![fun _ => BitVec.ofNat 32 k.val, constantI S_ 32 0#32, constantI S_ 32 0#32] a (Shape.Idx.first h_S_))) 1 = 0 := rfl
  have e2 : Host.clampedStart S512x16x300 S1x16x300 rfl (fun a => BitVec.toInt
      (![fun _ => BitVec.ofNat 32 k.val, constantI S_ 32 0#32, constantI S_ 32 0#32] a (Shape.Idx.first h_S_))) 2 = 0 := rfl
  congr 1
  · exact Fin.ext e0
  · exact Fin.ext ((congrArg (· + b.val) e1).trans (Nat.zero_add _))
  · exact Fin.ext ((congrArg (· + j.val) e2).trans (Nat.zero_add _))

/-- The hidden part at row `b`, gate row `g`. -/
theorem hidPart_apply (H : FVec Ideal S16x256 .f32) (Wh : FVec Ideal S768x256 .f32) (bh : FVec Ideal S768 .f32)
    (b : Fin 16) (g : Fin 768) :
    hidPart H Wh bh (ix2 b g) = lin (fun g j => Wh (ix2 g j)) (fun g => bh (ix1 g)) (fun j => H (ix2 b j)) g := by
  pointwise [hidPart, lin]

/-- One trip at row `b` and unit `u`: the cell of the gate parts where the trip's time is below the row's length. -/
theorem newHid_apply (T : IVec S512 32) (L : IVec S16 32) (k : Fin 512) (G K : FVec Ideal S16x768 .f32)
    (H : FVec Ideal S16x256 .f32) (b : Fin 16) (u : Fin 256) :
    newHid T L (fun _ => BitVec.ofNat 32 k.val) G K H (ix2 b u)
      = if (T (ix1 k)).toInt < (L (ix1 b)).toInt then
          cell (G (ix2 b (rowR u))) (G (ix2 b (rowZ u))) (G (ix2 b (rowN u)))
            (K (ix2 b (rowR u))) (K (ix2 b (rowZ u))) (K (ix2 b (rowN u))) (H (ix2 b u))
        else H (ix2 b u) := by
  have hlt := k.isLt
  have e0 : Host.clampedStart S512 S1 rfl (fun _ => (BitVec.ofNat 32 k.val).toInt) 0 = k.val :=
    Host.clampedStart_of_le _ _ _ _ (toInt_ofNat k.val hlt) (by show k.val + 1 ≤ 512; omega)
  pointwise [newHid, zGate, cell]
  rw [select_slt]
  refine if_congr ?_ rfl rfl
  rw [show ∀ h, (⟨Host.clampedStart S512 S1 rfl (fun _ => (BitVec.ofNat 32 k.val).toInt) 0, h⟩ : Fin 512) = k from
    fun h => Fin.ext e0]

/-- One trip of one direction, row by row: one step of the cell where the trip's time is below the row's length. -/
theorem newHid_step (T : IVec S512 32) (L : IVec S16 32) (X : FVec Ideal S512x16x300 .f32) (Wi : FVec Ideal S768x300 .f32)
    (Wh : FVec Ideal S768x256 .f32) (bi bh : FVec Ideal S768 .f32) (H : FVec Ideal S16x256 .f32) (k : Fin 512) (b : Fin 16)
    (u : Fin 256) :
    newHid T L (fun _ => BitVec.ofNat 32 k.val) (inPart X Wi bi (fun _ => BitVec.ofNat 32 k.val)) (hidPart H Wh bh) H (ix2 b u)
      = if (T (ix1 k)).toInt < (L (ix1 b)).toInt then
          step (weights Wi Wh bi bh) (fun j => X (ix3 k b j)) (fun v => H (ix2 b v)) u
        else H (ix2 b u) := by
  rw [newHid_apply, inPart_apply, inPart_apply, inPart_apply, hidPart_apply, hidPart_apply, hidPart_apply]
  rfl

end Cert.Gru.Ref
-- ==== Proof.RefLoop.lean ====
module

public import proofs.«01_k».proof.Proof.RefEntry
public import proofs.«01_k».proof.Proof.RefStep

/-!
The reference's loop by induction over its trips: after `k` trips each direction's hidden array holds, row by row, the
run of `k` steps over the words of the row the sort put there.
-/

@[expose] public section

set_option maxRecDepth 16384

noncomputable section

namespace Cert.Gru.Ref

open Idealize.ShloMosaic Idealize.ShloMosaic.TcCoe Idealize.SL.Sem
open Idealize.ShloMosaic.StableHlo
open Cert.ReferenceIdeal Cert.ReferenceIdeal.Gen Cert.ReferenceIdeal.Value

variable (m : (ℓ : Loc nD τ sig) → Buf (Elt Ideal) ℓ) (c : Dev nD)

/-- The weights of the forward direction. -/
def wF : Weights :=
  weights (m ((c.tc : Thread nD τ).loc main_arg1)) (m ((c.tc : Thread nD τ).loc main_arg2))
    (m ((c.tc : Thread nD τ).loc main_arg3)) (m ((c.tc : Thread nD τ).loc main_arg4))

/-- The weights of the backward direction. -/
def wB : Weights :=
  weights (m ((c.tc : Thread nD τ).loc main_arg5)) (m ((c.tc : Thread nD τ).loc main_arg6))
    (m ((c.tc : Thread nD τ).loc main_arg7)) (m ((c.tc : Thread nD τ).loc main_arg8))

/-- The words of row `r` of an array of words. -/
def rowWords (x : FVec Ideal S16x512x300 .f32) (r : Fin 16) : Fin 512 → Fin 300 → EReal := fun t j => x (ix3 r t j)

/-- The length of row `r`, zero counting as one. -/
def rowLen (L : IVec S16 32) (r : Fin 16) : ℤ := (if L (ix1 r) = 0#32 then 1#32 else L (ix1 r)).toInt

/-- The counter before trip `k`. -/
theorem ctr (k : ℕ) : atK m k c (Proc.devRef .tc main_v25_13) = fun _ => BitVec.ofNat 32 k := by
  rw [atK_ctr]
  funext _
  simp [Scf.iv]

/-- One more trip changes the forward hidden array by one step of the program. -/
theorem atK_fwd (k : ℕ) : atK m (k + 1) c (Proc.devRef .tc main_v25_14) = step_main_v25_14 (atK m k c) :=
  (trip_agree (atK m k c) main_v25_14 (by decide)).trans (STEP_main_v25_14 _)

/-- One more trip changes the backward hidden array by one step of the program. -/
theorem atK_bwd (k : ℕ) : atK m (k + 1) c (Proc.devRef .tc main_v25_15) = step_main_v25_15 (atK m k c) :=
  (trip_agree (atK m k c) main_v25_15 (by decide)).trans (STEP_main_v25_15 _)

/-- The forward hidden array after `k` trips. -/
theorem hid_fwd (k : ℕ) (hk : k ≤ 512) (b : Fin 16) (u : Fin 256) :
    atK m k c (Proc.devRef .tc main_v25_14) (ix2 b u)
      = fwd (wF m c) (rowWords (m ((c.tc : Thread nD τ).loc main_arg0)) (sortPerm (negi (m ((c.tc : Thread nD τ).loc main_arg11))) b))
          (rowLen (m ((c.tc : Thread nD τ).loc main_arg11)) (sortPerm (negi (m ((c.tc : Thread nD τ).loc main_arg11))) b)) k u := by
  induction k generalizing u with
  | zero =>
    refine (congrFun (entry_14 m c) (ix2 b u)).trans ?_
    pointwise
    rfl
  | succ k ih =>
    have hk' : k < 512 := by omega
    rw [atK_fwd, step_fwd, ctr m c k, loop_keep m (r := main_v25_0) (by decide) c k, loop_keep m (r := main_v25_1) (by decide) c k,
      loop_keep m (r := main_v25_4) (by decide) c k, loop_keep m (r := main_v25_5) (by decide) c k,
      loop_keep m (r := main_v25_6) (by decide) c k, loop_keep m (r := main_v25_7) (by decide) c k,
      loop_keep m (r := main_v25_8) (by decide) c k, entry_0, entry_1, entry_4, entry_5, entry_6, entry_7, entry_8]
    have ih' := fun v => ih (by omega) v
    refine (newHid_step _ _ _ _ _ _ _ _ ⟨k, hk'⟩ b u).trans ?_
    rw [fwd_succ _ _ _ ⟨k, hk'⟩ u]
    have eT : ((iotaInDim S512 32 0 : IVec S512 32) (ix1 ⟨k, hk'⟩)).toInt = k := toInt_ofNat k hk'
    have eL : ((sortedLens (m ((c.tc : Thread nD τ).loc main_arg11))) (ix1 b)).toInt
        = rowLen (m ((c.tc : Thread nD τ).loc main_arg11)) (sortPerm (negi (m ((c.tc : Thread nD τ).loc main_arg11))) b) :=
      congrArg BitVec.toInt (len_b _ b)
    rw [eT, eL]
    refine if_congr Iff.rfl ?_ (ih' u)
    exact congrFun (congrArg₂ (step (wF m c)) (funext fun j => word_k _ _ ⟨k, hk'⟩ b j) (funext fun v => ih' v)) u

/-- The backward hidden array after `k` trips. -/
theorem hid_bwd (k : ℕ) (hk : k ≤ 512) (b : Fin 16) (u : Fin 256) :
    atK m k c (Proc.devRef .tc main_v25_15) (ix2 b u)
      = bwd (wB m c) (rowWords (m ((c.tc : Thread nD τ).loc main_arg0)) (sortPerm (negi (m ((c.tc : Thread nD τ).loc main_arg11))) b))
          (rowLen (m ((c.tc : Thread nD τ).loc main_arg11)) (sortPerm (negi (m ((c.tc : Thread nD τ).loc main_arg11))) b)) k u := by
  induction k generalizing u with
  | zero =>
    refine (congrFun (entry_15 m c) (ix2 b u)).trans ?_
    pointwise
    rfl
  | succ k ih =>
    have hk' : k < 512 := by omega
    rw [atK_bwd, step_bwd, ctr m c k, loop_keep m (r := main_v25_2) (by decide) c k, loop_keep m (r := main_v25_3) (by decide) c k,
      loop_keep m (r := main_v25_4) (by decide) c k, loop_keep m (r := main_v25_9) (by decide) c k,
      loop_keep m (r := main_v25_10) (by decide) c k, loop_keep m (r := main_v25_11) (by decide) c k,
      loop_keep m (r := main_v25_12) (by decide) c k, entry_2, entry_3, entry_4, entry_9, entry_10, entry_11, entry_12]
    have ih' := fun v => ih (by omega) v
    refine (newHid_step _ _ _ _ _ _ _ _ ⟨k, hk'⟩ b u).trans ?_
    rw [bwd_succ _ _ _ ⟨k, hk'⟩ u]
    have eT : ((Host.reverse [0] (iotaInDim S512 32 0) : IVec S512 32) (ix1 ⟨k, hk'⟩)).toInt = ((511 - k : ℕ) : ℤ) :=
      (congrArg BitVec.toInt (rev_time ⟨k, hk'⟩)).trans (toInt_ofNat (511 - k) (by omega))
    have eL : ((sortedLens (m ((c.tc : Thread nD τ).loc main_arg11))) (ix1 b)).toInt
        = rowLen (m ((c.tc : Thread nD τ).loc main_arg11)) (sortPerm (negi (m ((c.tc : Thread nD τ).loc main_arg11))) b) :=
      congrArg BitVec.toInt (len_b _ b)
    rw [eT, eL]
    refine if_congr Iff.rfl ?_ (ih' u)
    exact congrFun (congrArg₂ (step (wB m c)) (funext fun j => (rev_word _ ⟨k, hk'⟩ b j).trans (word_k _ _ (Fin.rev ⟨k, hk'⟩) b j)) (funext fun v => ih' v)) u

end Cert.Gru.Ref
-- ==== Proof.RefPost.lean ====
module

public import proofs.«01_k».proof.Proof.RefLoop
public import proofs.«01_k».proof.Proof.Norm

/-!
What the reference returns: the two final hidden arrays side by side, their rows put back in the order of the batch,
each row normalised and scaled.
-/

@[expose] public section

set_option maxRecDepth 16384

noncomputable section

namespace Cert.Gru.Ref

open Idealize.ShloMosaic Idealize.ShloMosaic.TcCoe Idealize.SL.Sem
open Idealize.ShloMosaic.StableHlo
open Cert.ReferenceIdeal Cert.ReferenceIdeal.Gen Cert.ReferenceIdeal.Value

/-- The mean over a row, as the program computes it. -/
def rowMean (X : FVec Ideal S16x512 .f32) : FVec Ideal S16x1 .f32 :=
  Host.divf (broadcastInDim S16x1 ![0] bcast_S16_S16x1_0
      (Host.reduceAdd X (constant (F := Ideal) S_ .f32 0#32) reducesTo_S16x512_S16_d1 h_S_))
    (broadcastInDim S16x1 ![] bcast_S_S16x1 (constant (F := Ideal) S_ .f32 0x44000000#32))

/-- The rows less their means. -/
def centred (X : FVec Ideal S16x512 .f32) : FVec Ideal S16x512 .f32 :=
  subf X (broadcastInDim S16x512 ![0, 1] bcast_S16x1_S16x512_0_1 (rowMean X))

/-- The layer normalisation as the program computes it. -/
def layerNorm (X : FVec Ideal S16x512 .f32) (g b : FVec Ideal S512 .f32) : FVec Ideal S16x512 .f32 :=
  addf (mulf (Host.divf (centred X) (broadcastInDim S16x512 ![0, 1] bcast_S16x1_S16x512_0_1
      (Host.sqrt (addf (rowMean (mulf (centred X) (centred X)))
        (broadcastInDim S16x1 ![] bcast_S_S16x1 (constant (F := Ideal) S_ .f32 0x3727C5AC#32))))))
      (broadcastInDim S16x512 ![0, 1] bcast_S1x512_S16x512_0_1 (broadcastInDim S1x512 ![1] bcast_S512_S1x512_1 g)))
    (broadcastInDim S16x512 ![0, 1] bcast_S1x512_S16x512_0_1 (broadcastInDim S1x512 ![1] bcast_S512_S1x512_1 b))

/-- The final hidden arrays side by side, rows in the order of the positions `K`. -/
def unsorted (A B : FVec Ideal S16x256 .f32) (K : IVec S16 32) : FVec Ideal S16x512 .f32 :=
  Host.gather gather_S16x512_S16x1_S16x512_1_0_n_n_0_1_1512
    (concatenate S16x512 1 [⟨S16x256, A⟩, ⟨S16x256, B⟩] concatenates_S16x256_S16x256_S16x512_d1) (wrapped K)

/-- What the operations after the loop compute from the contents they find. -/
theorem post_result (V : Valuation τ sig (Elt Ideal)) :
    after hostOps0_6 V (Proc.devRef .tc main_v57)
      = layerNorm (unsorted (V (Proc.devRef .tc main_v25_14)) (V (Proc.devRef .tc main_v25_15)) (V (Proc.devRef .tc main_v2)))
          (V (Proc.devRef .tc main_arg9)) (V (Proc.devRef .tc main_arg10)) := by
  after_reads_simp
  rfl

/-- The mean of a row. -/
theorem rowMean_apply (X : FVec Ideal S16x512 .f32) (b : Fin 16) (z : Fin 1) :
    rowMean X (ix2 b z) = mean fun u => X (ix2 b u) := by
  pointwise [rowMean, mean]

/-- A row less its mean. -/
theorem centred_apply (X : FVec Ideal S16x512 .f32) (b : Fin 16) (u : Fin 512) :
    centred X (ix2 b u) = X (ix2 b u) - mean fun v => X (ix2 b v) := by
  pointwise [centred]
  rw [rowMean_apply]

/-- The program's layer normalisation, row by row. -/
theorem layerNorm_apply (X : FVec Ideal S16x512 .f32) (g b : FVec Ideal S512 .f32) (r : Fin 16) (u : Fin 512) :
    layerNorm X g b (ix2 r u) = norm (fun v => X (ix2 r v)) (fun v => g (ix1 v)) (fun v => b (ix1 v)) u := by
  have hv : rowMean (mulf (centred X) (centred X)) (ix2 r (0 : Fin 1)) = variance fun v => X (ix2 r v) := by
    rw [rowMean_apply]
    unfold variance
    refine congrArg mean (funext fun v => ?_)
    pointwise
    rw [centred_apply]
  pointwise [layerNorm, norm]
  rw [hv, centred_apply]

/-- Two arrays side by side, row by row. -/
theorem concat_apply (A B : FVec Ideal S16x256 .f32) (r : Fin 16) (u : Fin 512) :
    concatenate S16x512 1 [⟨S16x256, A⟩, ⟨S16x256, B⟩] concatenates_S16x256_S16x256_S16x512_d1 (ix2 r u)
      = sides (fun v => A (ix2 r v)) (fun v => B (ix2 r v)) u := by
  pointwise [sides]

variable (m : (ℓ : Loc nD τ sig) → Buf (Elt Ideal) ℓ) (c : Dev nD)

/-- The reference's result at row `r`: the normalised pair of runs over row `r`'s own words. -/
theorem result_apply (r : Fin 16) (u : Fin 512) :
    finalContents condOps preI bodyI postI 512 m c (Proc.devRef .tc main_v57) (ix2 r u)
      = norm (sides
          (fwd (wF m c) (rowWords (m ((c.tc : Thread nD τ).loc main_arg0)) r) (rowLen (m ((c.tc : Thread nD τ).loc main_arg11)) r) 512)
          (bwd (wB m c) (rowWords (m ((c.tc : Thread nD τ).loc main_arg0)) r) (rowLen (m ((c.tc : Thread nD τ).loc main_arg11)) r) 512))
        (fun v => m ((c.tc : Thread nD τ).loc main_arg9) (ix1 v)) (fun v => m ((c.tc : Thread nD τ).loc main_arg10) (ix1 v)) u := by
  have hA : ∀ {q : Ref sig .tc}, q ∉ preW → q ∉ loopW → after condOps (atK m 512 c) (Proc.devRef .tc q)
      = m ((c.tc : Thread nD τ).loc q) := fun h h' =>
    (cond_keep h' _).trans ((loop_keep m h' c 512).trans (entry_keep m h c))
  have h14 : after condOps (atK m 512 c) (Proc.devRef .tc main_v25_14) = atK m 512 c (Proc.devRef .tc main_v25_14) :=
    after_of_writes_sub condOps _ condOps_writes (by decide)
  have h15 : after condOps (atK m 512 c) (Proc.devRef .tc main_v25_15) = atK m 512 c (Proc.devRef .tc main_v25_15) :=
    after_of_writes_sub condOps _ condOps_writes (by decide)
  have h2 : after condOps (atK m 512 c) (Proc.devRef .tc main_v2) = order (order (negi (m ((c.tc : Thread nD τ).loc main_arg11)))) :=
    (cond_keep (by decide) _).trans ((loop_keep m (by decide) c 512).trans (entry_order m c))
  show after hostOps0_6 (after condOps (atK m 512 c)) (Proc.devRef .tc main_v57) (ix2 r u) = _
  rw [post_result, h14, h15, h2, hA (q := main_arg9) (by decide) (by decide), hA (q := main_arg10) (by decide) (by decide),
    layerNorm_apply]
  refine congrArg (fun h => norm h _ _ u) (funext fun v => ?_)
  have hinv := sortPerm_inverse (order (negi (m ((c.tc : Thread nD τ).loc main_arg11)))) _ (sortPerm_injective _)
    (fun b => order_apply _ b) r
  refine (gather_hid _ _ r _ (order_apply _ r) v).trans ((concat_apply _ _ _ v).trans ?_)
  refine congrArg₂ (fun a b => sides a b v) (funext fun w => ?_) (funext fun w => ?_)
  · rw [hid_fwd m c 512 le_rfl, hinv]
  · rw [hid_bwd m c 512 le_rfl, hinv]

end Cert.Gru.Ref
-- ==== Proof.Equation.lean ====
module

public import proofs.«01_k».proof.Proof.KValue
public import proofs.«01_k».proof.Proof.RefPost

/-!
Kernel and reference return the same array from the same arguments, if no length is negative: both are the layer norm of
the same two runs, and the two ways of raising a length of zero to one agree.
-/

@[expose] public section

set_option maxRecDepth 16384

noncomputable section

namespace Cert.Gru

open Idealize.ShloMosaic Idealize.ShloMosaic.TcCoe Idealize.SL.Sem
open Idealize.ShloMosaic.StableHlo

/-- The larger of a length and one is the length with zero replaced by one, if the length is not negative. -/
theorem max_one (L : BitVec 32) (h : 0 ≤ L.toInt) : (IntOp.maxsi L 1#32).toInt = (if L = 0#32 then 1#32 else L).toInt := by
  have h1 : (1#32 : BitVec 32).toInt = 1 := by decide
  by_cases h0 : L = 0#32
  · subst h0
    decide
  · rw [if_neg h0]
    unfold IntOp.maxsi
    by_cases hs : (1#32 : BitVec 32).slt L = true
    · rw [if_pos hs]
    · rw [if_neg hs]
      have hle : L.toInt ≤ 1 := by
        rw [BitVec.slt, decide_eq_true_eq, h1] at hs
        omega
      have hne : L.toInt ≠ 0 := fun e => h0 (BitVec.eq_of_toInt_eq (e.trans (by decide)))
      omega

/-- The result of the reference is the result of the kernel. -/
theorem equation (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpos : ∀ r : Fin 16, 0 ≤ (m ((c.tc : Thread Cert.KernelIdeal.nD Cert.KernelIdeal.τ).loc Cert.KernelIdeal.main_arg11) (ix1 r) : BitVec 32).toInt)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    finalContents Cert.ReferenceIdeal.Value.condOps Cert.ReferenceIdeal.Value.preI Cert.ReferenceIdeal.Value.bodyI
      Cert.ReferenceIdeal.Value.postI 512 m' c (Proc.devRef .tc Cert.ReferenceIdeal.main_v57) = Cert.KernelIdeal.Value.G13 m c := by
  obtain ⟨h0, h1, h2, h3, h4, h5, h6, h7, h8, h9, h10, h11⟩ := hagree
  have hF : Ref.wF m' c = Ker.wF m c := by
    unfold Ref.wF
    rw [h1, h2, h3, h4]
    rfl
  have hB : Ref.wB m' c = Ker.wB m c := by
    unfold Ref.wB
    rw [h5, h6, h7, h8]
    rfl
  have hW : ∀ r : Fin 16, Ref.rowWords (m' ((c.tc : Thread Cert.ReferenceIdeal.nD Cert.ReferenceIdeal.τ).loc Cert.ReferenceIdeal.main_arg0)) r
      = Ker.words m c r := by
    intro r
    rw [h0]
    rfl
  have hL : ∀ r : Fin 16, Ref.rowLen (m' ((c.tc : Thread Cert.ReferenceIdeal.nD Cert.ReferenceIdeal.τ).loc Cert.ReferenceIdeal.main_arg11)) r
      = Ker.len m c r := by
    intro r
    rw [h11]
    exact (max_one _ (hpos r)).symm
  have key : ∀ (r : Fin 16) (u : Fin 512), finalContents Cert.ReferenceIdeal.Value.condOps Cert.ReferenceIdeal.Value.preI
      Cert.ReferenceIdeal.Value.bodyI Cert.ReferenceIdeal.Value.postI 512 m' c (Proc.devRef .tc Cert.ReferenceIdeal.main_v57) (ix2 r u)
        = Cert.KernelIdeal.Value.G13 m c (ix2 r u) := by
    intro r u
    rw [Ref.result_apply, Ker.result_apply, hF, hB, hW, hL, h9, h10]
  funext i
  have hi : i = ix2 (i 0) (i 1) := by
    funext a
    match a with
    | ⟨0, _⟩ => rfl
    | ⟨1, _⟩ => rfl
  rw [hi]
  exact key (i 0) (i 1)

end Cert.Gru
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.RefKeep
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem Cert.Kernel

/-- The side condition that the precondition states: one number is repeated over sixteen. -/
theorem pre_facts : Cert.Pre_lengths_nonneg.Facts := ⟨by decide⟩

/-- A number that compares as at least zero is not negative. -/
theorem nonneg_of_cmp (L : BitVec 32) (h : IntOp.cmpi .sge L 0#32 = 1#1) : 0 ≤ L.toInt := by
  by_contra hn
  have hs : (0#32 : BitVec 32).sle L = false := by
    rw [BitVec.sle, decide_eq_false_iff_not]
    exact hn
  rw [show IntOp.cmpi .sge L 0#32 = BitVec.ofBool ((0#32 : BitVec 32).sle L) from rfl, hs] at h
  exact absurd h (by decide)

/-- Under the precondition no length is negative. -/
theorem length_nonneg (m : (ℓ : Loc Cert.KernelIdeal.nD Cert.KernelIdeal.τ Cert.KernelIdeal.sig) → Buf (Elt Ideal) ℓ)
    (h : Cert.Pre_KernelIdeal_lengths_nonneg (hPre_lengths_nonneg := pre_facts) m) (c : Dev Cert.KernelIdeal.nD) (r : Fin 16) :
    0 ≤ (m ((c.tc : Thread Cert.KernelIdeal.nD Cert.KernelIdeal.τ).loc Cert.KernelIdeal.main_arg11) (ix1 r) : BitVec 32).toInt :=
  nonneg_of_cmp _ (congrFun (h c) (ix1 r))

/-- Kernel and reference end with the same result. -/
theorem algebraic : Cert.algebraic_KernelIdeal_ReferenceIdeal_pre_lengths_nonneg (hKernelIdeal := Cert.KernelIdeal.Gen.facts)
    (hReferenceIdeal := Cert.ReferenceIdeal.Gen.facts) (hPre_lengths_nonneg := pre_facts) := by
  intro m g m' g' hpre hagree
  refine ⟨fun c => Cert.KernelIdeal.Value.G13 m c, Cert.KernelIdeal.Value.run m g, ?_⟩
  refine (θ_run _ _ _).mono (fun r h c => ?_) (Cert.ReferenceIdeal.Value.run_fold (F := Ideal) m' g')
  refine ⟨(h c _ rfl).trans (Cert.Gru.equation m m' c (length_nonneg m hpre c) (hagree c)), ?_, ?_, ?_, ?_, ?_, ?_, ?_, ?_, ?_, ?_, ?_, ?_⟩
  all_goals exact (h c _ rfl).trans (Cert.Gru.Ref.final_keep m' (by decide) (by decide) (by decide) c)

/-- All claims. -/
theorem claim : Cert.Claim :=
  ⟨Cert.Kernel.Gen.facts, Cert.KernelIdeal.Gen.facts, Cert.ReferenceIdeal.Gen.facts, pre_facts,
    fun m ρ _ => Cert.Kernel.Gen.frame m ρ, fun m ρ _ => Cert.KernelIdeal.Gen.frame m ρ, fun m ρ _ => Cert.KernelIdeal.Gen.frame m ρ,
    fun m ρ _ => Cert.Gru.Ref.frame m ρ, fun m ρ _ => Cert.Gru.Ref.frame m ρ, trivial, algebraic⟩

end Cert.Proof

end
